-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_graphs [hPre_sorted_graphs : Cert.Pre_sorted_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_graphs [hPre_sorted_graphs : Cert.Pre_sorted_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_graphs [hKernelIdeal : Cert.KernelIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_graphs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_graphs [hReferenceIdeal : Cert.ReferenceIdeal.Facts] [hPre_sorted_graphs : Cert.Pre_sorted_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_graphs [hKernelIdeal : Cert.KernelIdeal.Facts] [hReferenceIdeal : Cert.ReferenceIdeal.Facts] [hPre_sorted_graphs : Cert.Pre_sorted_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_graphs : Cert.Pre_sorted_graphs.Facts),
    quiescent_Kernel (hKernel := hKernel)
    ∧ quiescent_KernelIdeal (hKernelIdeal := hKernelIdeal)
    ∧ quiescent_KernelIdeal_pre_sorted_graphs (hKernelIdeal := hKernelIdeal) (hPre_sorted_graphs := hPre_sorted_graphs)
    ∧ quiescent_ReferenceIdeal (hReferenceIdeal := hReferenceIdeal)
    ∧ quiescent_ReferenceIdeal_pre_sorted_graphs (hReferenceIdeal := hReferenceIdeal) (hPre_sorted_graphs := hPre_sorted_graphs)
    ∧ preserves_Kernel_KernelIdeal
    ∧ algebraic_KernelIdeal_ReferenceIdeal_pre_sorted_graphs (hKernelIdeal := hKernelIdeal) (hReferenceIdeal := hReferenceIdeal) (hPre_sorted_graphs := hPre_sorted_graphs)
-- ==== Pre_sorted_graphs.lean ====
abbrev S10000x256 : Shape := ⟨2, ![10000, 256]⟩
abbrev S2x160000 : Shape := ⟨2, ![2, 160000]⟩
abbrev S10000 : Shape := ⟨1, ![10000]⟩
abbrev S9999 : Shape := ⟨1, ![9999]⟩
abbrev S_ : Shape := ⟨0, ![]⟩

class Facts : Prop where
  slices_S10000_S9999_0 : S10000.Slices ![0] S9999
  slices_S10000_S9999_1 : S10000.Slices ![1] S9999
  reducesTo_S9999_S_d0 : S9999.ReducesTo [0] S_
  h_S_ : 0 < S_.numel

variable [Facts]

def fn {F : FTy → Type} [FloatOps F] (main_arg0 : FVec F S10000x256 .f32) (main_arg1 : IVec S2x160000 32) (main_arg2 : IVec S10000 32) : IVec S_ 1 :=
  let main_v0 : IVec S9999 32 := (extractStridedSlice S9999 ![0] · slices_S10000_S9999_0) main_arg2
  let main_v1 : IVec S9999 32 := (extractStridedSlice S9999 ![1] · slices_S10000_S9999_1) main_arg2
  let main_v2 : IVec S9999 1 := cmpi .sle main_v0 main_v1
  let main_c : IVec S_ 1 := constantI S_ 1 1#1
  let main_v3 : IVec S_ 1 := (fun x v => Host.reduce IntOp.andi x v reducesTo_S9999_S_d0 h_S_) main_v2 main_c
  main_v3
-- ==== Kernel.lean ====
abbrev S10000x256 : Shape := ⟨2, ![10000, 256]⟩
abbrev S2x160000 : Shape := ⟨2, ![2, 160000]⟩
abbrev S10000 : Shape := ⟨1, ![10000]⟩
abbrev S2560000 : Shape := ⟨1, ![2560000]⟩
abbrev S49152 : Shape := ⟨1, ![49152]⟩
abbrev S10016 : Shape := ⟨1, ![10016]⟩
abbrev S16384 : Shape := ⟨1, ![16384]⟩
abbrev S768 : Shape := ⟨1, ![768]⟩
abbrev S_ : Shape := ⟨0, ![]⟩
abbrev S16 : Shape := ⟨1, ![16]⟩
abbrev S1 : Shape := ⟨1, ![1]⟩
abbrev S64x768 : Shape := ⟨2, ![64, 768]⟩

abbrev nBuf : Table → Nat
  | .hbm => 6
  | .local .scVector .vmem => 3
  | _ => 0

abbrev bufTy : (tb : Table) → Fin (nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S2560000, .f32⟩
  | .hbm, ⟨4, _⟩ => ⟨S49152, .f32⟩
  | .hbm, ⟨5, _⟩ => ⟨S64x768, .f32⟩
  | .local .scVector .vmem, ⟨0, _⟩ => ⟨S10016, .i32⟩
  | .local .scVector .vmem, ⟨1, _⟩ => ⟨S16384, .f32⟩
  | .local .scVector .vmem, ⟨2, _⟩ => ⟨S768, .f32⟩
  | _, _ => ⟨S10000x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c14_i32 : BitVec 32 := 14#32
  let v8 : BitVec 32 := Scalar.addi c0_i32_2 c14_i32
  let c1_i32 : BitVec 32 := 1#32
  ⟨c0_i32_2, v8, c1_i32⟩
def k0_off1 (arg9 : BitVec 32) (arg10 : BitVec 32) : Fin 1 → Nat :=
  let v408 : BitVec 32 := Scalar.addi arg9 arg10
  let c0_i32_101 : BitVec 32 := 0#32
  let v410 : BitVec 1 := Scalar.cmpi .sgt v408 c0_i32_101
  let v411 : BitVec 32 := Scalar.extui v410
  let c0_i32_102 : BitVec 32 := 0#32
  let v412 : BitVec 1 := Scalar.cmpi .slt v408 c0_i32_102
  let v413 : BitVec 32 := Scalar.extui v412
  let v414 : BitVec 32 := Scalar.subi v411 v413
  let c2_i32_100 : BitVec 32 := 2#32
  let c0_i32_103 : BitVec 32 := 0#32
  let v415 : BitVec 1 := Scalar.cmpi .sgt c2_i32_100 c0_i32_103
  let v416 : BitVec 32 := Scalar.extui v415
  let c0_i32_104 : BitVec 32 := 0#32
  let v417 : BitVec 1 := Scalar.cmpi .slt c2_i32_100 c0_i32_104
  let v418 : BitVec 32 := Scalar.extui v417
  let v419 : BitVec 32 := Scalar.subi v416 v418
  let v420 : BitVec 1 := Scalar.cmpi .ne v414 v419
  let v421 : BitVec 32 := Scalar.remsi v408 c2_i32_100
  let c0_i32_105 : BitVec 32 := 0#32
  let v422 : BitVec 1 := Scalar.cmpi .ne v421 c0_i32_105
  let v423 : BitVec 1 := Scalar.andi v420 v422
  let v409 : BitVec 32 := Scalar.divsi v408 c2_i32_100
  let c1_i32_106 : BitVec 32 := 1#32
  let v424 : BitVec 32 := Scalar.subi v409 c1_i32_106
  let v425 : BitVec 32 := Scalar.select v423 v424 v409
  let v426 : Index := Scalar.indexCast v425
  ![v426.toNat]

def k0_chk1 (arg9 : BitVec 32) (arg10 : BitVec 32) : Prop :=
  (∀ a, (k0_off1 arg9 arg10) a + S16.size a ≤ S10016.size a)
theorem k0_off1_inb : ∀ (arg9 : BitVec 32) (arg10 : BitVec 32) (k0_hw1 : k0_chk1 arg9 arg10), ∀ a, (k0_off1 arg9 arg10) a + S16.size a ≤ S10016.size a := fun arg9 arg10 k0_hw1 => k0_hw1

@[reducible] def k0_t2_loop : Scf.Loop 32 :=
  let c0_i32_7 : BitVec 32 := 0#32
  let c14_i32_8 : BitVec 32 := 14#32
  let v11 : BitVec 32 := Scalar.addi c0_i32_7 c14_i32_8
  let c1_i32_9 : BitVec 32 := 1#32
  ⟨c0_i32_7, v11, c1_i32_9⟩
def k0_off2 (arg9 : BitVec 32) (arg10 : BitVec 32) : Fin 1 → Nat :=
  let v408 : BitVec 32 := Scalar.addi arg9 arg10
  let c0_i32_101 : BitVec 32 := 0#32
  let v410 : BitVec 1 := Scalar.cmpi .sgt v408 c0_i32_101
  let v411 : BitVec 32 := Scalar.extui v410
  let c0_i32_102 : BitVec 32 := 0#32
  let v412 : BitVec 1 := Scalar.cmpi .slt v408 c0_i32_102
  let v413 : BitVec 32 := Scalar.extui v412
  let v414 : BitVec 32 := Scalar.subi v411 v413
  let c2_i32_100 : BitVec 32 := 2#32
  let c0_i32_103 : BitVec 32 := 0#32
  let v415 : BitVec 1 := Scalar.cmpi .sgt c2_i32_100 c0_i32_103
  let v416 : BitVec 32 := Scalar.extui v415
  let c0_i32_104 : BitVec 32 := 0#32
  let v417 : BitVec 1 := Scalar.cmpi .slt c2_i32_100 c0_i32_104
  let v418 : BitVec 32 := Scalar.extui v417
  let v419 : BitVec 32 := Scalar.subi v416 v418
  let v420 : BitVec 1 := Scalar.cmpi .ne v414 v419
  let v421 : BitVec 32 := Scalar.remsi v408 c2_i32_100
  let c0_i32_105 : BitVec 32 := 0#32
  let v422 : BitVec 1 := Scalar.cmpi .ne v421 c0_i32_105
  let v423 : BitVec 1 := Scalar.andi v420 v422
  let v409 : BitVec 32 := Scalar.divsi v408 c2_i32_100
  let c1_i32_106 : BitVec 32 := 1#32
  let v424 : BitVec 32 := Scalar.subi v409 c1_i32_106
  let v425 : BitVec 32 := Scalar.select v423 v424 v409
  let v426 : Index := Scalar.indexCast v425
  ![v426.toNat]

def k0_chk2 (arg9 : BitVec 32) (arg10 : BitVec 32) : Prop :=
  (∀ a, (k0_off2 arg9 arg10) a + S16.size a ≤ S10016.size a)
theorem k0_off2_inb : ∀ (arg9 : BitVec 32) (arg10 : BitVec 32) (k0_hw2 : k0_chk2 arg9 arg10), ∀ a, (k0_off2 arg9 arg10) a + S16.size a ≤ S10016.size a := fun arg9 arg10 k0_hw2 => k0_hw2

@[reducible] def k0_t3_loop : Scf.Loop 32 :=
  let c0_i32_14 : BitVec 32 := 0#32
  let c14_i32_15 : BitVec 32 := 14#32
  let v14 : BitVec 32 := Scalar.addi c0_i32_14 c14_i32_15
  let c1_i32_16 : BitVec 32 := 1#32
  ⟨c0_i32_14, v14, c1_i32_16⟩
def k0_off3 (arg9 : BitVec 32) (arg10 : BitVec 32) : Fin 1 → Nat :=
  let v408 : BitVec 32 := Scalar.addi arg9 arg10
  let c0_i32_101 : BitVec 32 := 0#32
  let v410 : BitVec 1 := Scalar.cmpi .sgt v408 c0_i32_101
  let v411 : BitVec 32 := Scalar.extui v410
  let c0_i32_102 : BitVec 32 := 0#32
  let v412 : BitVec 1 := Scalar.cmpi .slt v408 c0_i32_102
  let v413 : BitVec 32 := Scalar.extui v412
  let v414 : BitVec 32 := Scalar.subi v411 v413
  let c2_i32_100 : BitVec 32 := 2#32
  let c0_i32_103 : BitVec 32 := 0#32
  let v415 : BitVec 1 := Scalar.cmpi .sgt c2_i32_100 c0_i32_103
  let v416 : BitVec 32 := Scalar.extui v415
  let c0_i32_104 : BitVec 32 := 0#32
  let v417 : BitVec 1 := Scalar.cmpi .slt c2_i32_100 c0_i32_104
  let v418 : BitVec 32 := Scalar.extui v417
  let v419 : BitVec 32 := Scalar.subi v416 v418
  let v420 : BitVec 1 := Scalar.cmpi .ne v414 v419
  let v421 : BitVec 32 := Scalar.remsi v408 c2_i32_100
  let c0_i32_105 : BitVec 32 := 0#32
  let v422 : BitVec 1 := Scalar.cmpi .ne v421 c0_i32_105
  let v423 : BitVec 1 := Scalar.andi v420 v422
  let v409 : BitVec 32 := Scalar.divsi v408 c2_i32_100
  let c1_i32_106 : BitVec 32 := 1#32
  let v424 : BitVec 32 := Scalar.subi v409 c1_i32_106
  let v425 : BitVec 32 := Scalar.select v423 v424 v409
  let v426 : Index := Scalar.indexCast v425
  ![v426.toNat]

def k0_chk3 (arg9 : BitVec 32) (arg10 : BitVec 32) : Prop :=
  (∀ a, (k0_off3 arg9 arg10) a + S16.size a ≤ S10016.size a)
theorem k0_off3_inb : ∀ (arg9 : BitVec 32) (arg10 : BitVec 32) (k0_hw3 : k0_chk3 arg9 arg10), ∀ a, (k0_off3 arg9 arg10) a + S16.size a ≤ S10016.size a := fun arg9 arg10 k0_hw3 => k0_hw3

@[reducible] def k0_t4_loop (v9_0 : BitVec 32) (v12_0 : BitVec 32) : Scf.Loop 32 :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_29 : BitVec 32 := 1#32
  ⟨c0_i32_27, v42, c1_i32_29⟩

def k0_off4 (v9_0 : BitVec 32) (v12_0 : BitVec 32) (k0_t4 : Fin (k0_t4_loop v9_0 v12_0).trips) : Fin 1 → Nat :=
  let c0_i32_27 : BitVec 32 := 0#32
  let c1_i32_29 : BitVec 32 := 1#32
  let arg8 : BitVec 32 := Scf.iv c0_i32_27 c1_i32_29 k0_t4
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let c256_i32_102 : BitVec 32 := 256#32
  let v415 : BitVec 32 := Scalar.muli v410 c256_i32_102
  ![v415.toNat]
@[reducible] def k0_t5_loop (v9_0 : BitVec 32) (v12_0 : BitVec 32) (k0_t4 : Fin (k0_t4_loop v9_0 v12_0).trips) : Scf.Loop 32 :=
  let c0_i32_27 : BitVec 32 := 0#32
  let c1_i32_29 : BitVec 32 := 1#32
  let arg8 : BitVec 32 := Scf.iv c0_i32_27 c1_i32_29 k0_t4
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_104 : BitVec 32 := 1#32
  ⟨v411, v420, c1_i32_104⟩
def k0_off5 (v9_0 : BitVec 32) (v12_0 : BitVec 32) (k0_t4 : Fin (k0_t4_loop v9_0 v12_0).trips) (k0_t5 : Fin (k0_t5_loop v9_0 v12_0 k0_t4).trips) (c0_i32_107 : BitVec 32) : Fin 1 → Nat :=
  let c0_i32_27 : BitVec 32 := 0#32
  let c1_i32_29 : BitVec 32 := 1#32
  let arg8 : BitVec 32 := Scf.iv c0_i32_27 c1_i32_29 k0_t4
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c1_i32_104 : BitVec 32 := 1#32
  let arg41 : BitVec 32 := Scf.iv v411 c1_i32_104 k0_t5
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t6_loop (v9_0 : BitVec 32) (v12_0 : BitVec 32) (k0_t4 : Fin (k0_t4_loop v9_0 v12_0).trips) : Scf.Loop 32 :=
  let c0_i32_27 : BitVec 32 := 0#32
  let c1_i32_29 : BitVec 32 := 1#32
  let arg8 : BitVec 32 := Scf.iv c0_i32_27 c1_i32_29 k0_t4
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let v417 : BitVec 32 := Scalar.addi v411 v416
  let c1_i32_105 : BitVec 32 := 1#32
  ⟨v420, v417, c1_i32_105⟩
def k0_off6 (v9_0 : BitVec 32) (v12_0 : BitVec 32) (k0_t4 : Fin (k0_t4_loop v9_0 v12_0).trips) (k0_t6 : Fin (k0_t6_loop v9_0 v12_0 k0_t4).trips) (c0_i32_107 : BitVec 32) : Fin 1 → Nat :=
  let c0_i32_27 : BitVec 32 := 0#32
  let c1_i32_29 : BitVec 32 := 1#32
  let arg8 : BitVec 32 := Scf.iv c0_i32_27 c1_i32_29 k0_t4
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_105 : BitVec 32 := 1#32
  let arg41 : BitVec 32 := Scf.iv v420 c1_i32_105 k0_t6
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t7_loop (v9_0 : BitVec 32) (v12_0 : BitVec 32) : Scf.Loop 32 :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let v39 : BitVec 32 := Scalar.addi c0_i32_27 v38
  let c1_i32_30 : BitVec 32 := 1#32
  ⟨v42, v39, c1_i32_30⟩
def k0_off7 (v9_0 : BitVec 32) (v12_0 : BitVec 32) (k0_t7 : Fin (k0_t7_loop v9_0 v12_0).trips) : Fin 1 → Nat :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg8 : BitVec 32 := Scf.iv v42 c1_i32_30 k0_t7
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let c256_i32_102 : BitVec 32 := 256#32
  let v415 : BitVec 32 := Scalar.muli v410 c256_i32_102
  ![v415.toNat]
@[reducible] def k0_t8_loop (v9_0 : BitVec 32) (v12_0 : BitVec 32) (k0_t7 : Fin (k0_t7_loop v9_0 v12_0).trips) : Scf.Loop 32 :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg8 : BitVec 32 := Scf.iv v42 c1_i32_30 k0_t7
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_104 : BitVec 32 := 1#32
  ⟨v411, v420, c1_i32_104⟩
def k0_off8 (v9_0 : BitVec 32) (v12_0 : BitVec 32) (k0_t7 : Fin (k0_t7_loop v9_0 v12_0).trips) (k0_t8 : Fin (k0_t8_loop v9_0 v12_0 k0_t7).trips) (c0_i32_107 : BitVec 32) : Fin 1 → Nat :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg8 : BitVec 32 := Scf.iv v42 c1_i32_30 k0_t7
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c1_i32_104 : BitVec 32 := 1#32
  let arg41 : BitVec 32 := Scf.iv v411 c1_i32_104 k0_t8
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t9_loop (v9_0 : BitVec 32) (v12_0 : BitVec 32) (k0_t7 : Fin (k0_t7_loop v9_0 v12_0).trips) : Scf.Loop 32 :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg8 : BitVec 32 := Scf.iv v42 c1_i32_30 k0_t7
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let v417 : BitVec 32 := Scalar.addi v411 v416
  let c1_i32_105 : BitVec 32 := 1#32
  ⟨v420, v417, c1_i32_105⟩
def k0_off9 (v9_0 : BitVec 32) (v12_0 : BitVec 32) (k0_t7 : Fin (k0_t7_loop v9_0 v12_0).trips) (k0_t9 : Fin (k0_t9_loop v9_0 v12_0 k0_t7).trips) (c0_i32_107 : BitVec 32) : Fin 1 → Nat :=
  let c0_i32_27 : BitVec 32 := 0#32
  let v17 : BitVec 32 := Scalar.subi v12_0 v9_0
  let c63_i32 : BitVec 32 := 63#32
  let v18 : BitVec 32 := Scalar.addi v17 c63_i32
  let c0_i32_20 : BitVec 32 := 0#32
  let v20 : BitVec 1 := Scalar.cmpi .sgt v18 c0_i32_20
  let v21 : BitVec 32 := Scalar.extui v20
  let c0_i32_21 : BitVec 32 := 0#32
  let v22 : BitVec 1 := Scalar.cmpi .slt v18 c0_i32_21
  let v23 : BitVec 32 := Scalar.extui v22
  let v24 : BitVec 32 := Scalar.subi v21 v23
  let c64_i32_19 : BitVec 32 := 64#32
  let c0_i32_22 : BitVec 32 := 0#32
  let v25 : BitVec 1 := Scalar.cmpi .sgt c64_i32_19 c0_i32_22
  let v26 : BitVec 32 := Scalar.extui v25
  let c0_i32_23 : BitVec 32 := 0#32
  let v27 : BitVec 1 := Scalar.cmpi .slt c64_i32_19 c0_i32_23
  let v28 : BitVec 32 := Scalar.extui v27
  let v29 : BitVec 32 := Scalar.subi v26 v28
  let v30 : BitVec 1 := Scalar.cmpi .ne v24 v29
  let v31 : BitVec 32 := Scalar.remsi v18 c64_i32_19
  let c0_i32_24 : BitVec 32 := 0#32
  let v32 : BitVec 1 := Scalar.cmpi .ne v31 c0_i32_24
  let v33 : BitVec 1 := Scalar.andi v30 v32
  let v19 : BitVec 32 := Scalar.divsi v18 c64_i32_19
  let c1_i32_25 : BitVec 32 := 1#32
  let v34 : BitVec 32 := Scalar.subi v19 c1_i32_25
  let v35 : BitVec 32 := Scalar.select v33 v34 v19
  let v38 : BitVec 32 := Scalar.subi v35 c0_i32_27
  let c1_i32_28 : BitVec 32 := 1#32
  let v40 : BitVec 32 := Scalar.divsi v38 c1_i32_28
  let v41 : BitVec 32 := Scalar.muli v40 c1_i32_28
  let v42 : BitVec 32 := Scalar.addi c0_i32_27 v41
  let c1_i32_30 : BitVec 32 := 1#32
  let arg8 : BitVec 32 := Scf.iv v42 c1_i32_30 k0_t7
  let c64_i32_100 : BitVec 32 := 64#32
  let v408 : BitVec 32 := Scalar.muli arg8 c64_i32_100
  let v409 : BitVec 32 := Scalar.addi v9_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v12_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_105 : BitVec 32 := 1#32
  let arg41 : BitVec 32 := Scf.iv v420 c1_i32_105 k0_t9
  let c256_i32_106 : BitVec 32 := 256#32
  let v423 : BitVec 32 := Scalar.muli arg41 c256_i32_106
  let v424 : BitVec 32 := Scalar.addi v423 c0_i32_107
  let v425 : Index := Scalar.indexCast v424
  ![v425.toNat]

def k0_chk4 (v9_0 : BitVec 32) (v12_0 : BitVec 32) : Prop :=
  ((k0_t4_loop v9_0 v12_0).OK) ∧
  (∀ k0_t4 : Fin (k0_t4_loop v9_0 v12_0).trips, ∀ a, (k0_off4 v9_0 v12_0 k0_t4) a + S16384.size a ≤ S2560000.size a) ∧
  (∀ k0_t4 : Fin (k0_t4_loop v9_0 v12_0).trips, (k0_t5_loop v9_0 v12_0 k0_t4).OK) ∧
  (∀ (k0_t4 : Fin (k0_t4_loop v9_0 v12_0).trips) (k0_t5 : Fin (k0_t5_loop v9_0 v12_0 k0_t4).trips), ∀ (r : Fin 16), ∀ a, (k0_off5 v9_0 v12_0 k0_t4 k0_t5 (BitVec.ofNat 32 (16 * r.val))) a + S16.size a ≤ S16384.size a) ∧
  (∀ k0_t4 : Fin (k0_t4_loop v9_0 v12_0).trips, (k0_t6_loop v9_0 v12_0 k0_t4).OK) ∧
  (∀ (k0_t4 : Fin (k0_t4_loop v9_0 v12_0).trips) (k0_t6 : Fin (k0_t6_loop v9_0 v12_0 k0_t4).trips), ∀ (r : Fin 16), ∀ a, (k0_off6 v9_0 v12_0 k0_t4 k0_t6 (BitVec.ofNat 32 (16 * r.val))) a + S16.size a ≤ S16384.size a) ∧
  ((k0_t7_loop v9_0 v12_0).OK) ∧
  (∀ k0_t7 : Fin (k0_t7_loop v9_0 v12_0).trips, ∀ a, (k0_off7 v9_0 v12_0 k0_t7) a + S16384.size a ≤ S2560000.size a) ∧
  (∀ k0_t7 : Fin (k0_t7_loop v9_0 v12_0).trips, (k0_t8_loop v9_0 v12_0 k0_t7).OK) ∧
  (∀ (k0_t7 : Fin (k0_t7_loop v9_0 v12_0).trips) (k0_t8 : Fin (k0_t8_loop v9_0 v12_0 k0_t7).trips), ∀ (r : Fin 16), ∀ a, (k0_off8 v9_0 v12_0 k0_t7 k0_t8 (BitVec.ofNat 32 (16 * r.val))) a + S16.size a ≤ S16384.size a) ∧
  (∀ k0_t7 : Fin (k0_t7_loop v9_0 v12_0).trips, (k0_t9_loop v9_0 v12_0 k0_t7).OK) ∧
  (∀ (k0_t7 : Fin (k0_t7_loop v9_0 v12_0).trips) (k0_t9 : Fin (k0_t9_loop v9_0 v12_0 k0_t7).trips), ∀ (r : Fin 16), ∀ a, (k0_off9 v9_0 v12_0 k0_t7 k0_t9 (BitVec.ofNat 32 (16 * r.val))) a + S16.size a ≤ S16384.size a)
theorem k0_t4_ok : ∀ (v9_0 : BitVec 32) (v12_0 : BitVec 32) (k0_hw4 : k0_chk4 v9_0 v12_0), (k0_t4_loop v9_0 v12_0).OK := fun v9_0 v12_0 k0_hw4 => k0_hw4.1
theorem k0_off4_inb : ∀ (v9_0 : BitVec 32) (v12_0 : BitVec 32) (k0_hw4 : k0_chk4 v9_0 v12_0) (k0_t4 : Fin (k0_t4_loop v9_0 v12_0).trips), ∀ a, (k0_off4 v9_0 v12_0 k0_t4) a + S16384.size a ≤ S2560000.size a := fun v9_0 v12_0 k0_hw4 k0_t4 => k0_hw4.2.1 k0_t4
theorem k0_t5_ok : ∀ (v9_0 : BitVec 32) (v12_0 : BitVec 32) (k0_hw4 : k0_chk4 v9_0 v12_0) (k0_t4 : Fin (k0_t4_loop v9_0 v12_0).trips), (k0_t5_loop v9_0 v12_0 k0_t4).OK := fun v9_0 v12_0 k0_hw4 k0_t4 => k0_hw4.2.2.1 k0_t4
theorem k0_off5_inb : ∀ (v9_0 : BitVec 32) (v12_0 : BitVec 32) (k0_hw4 : k0_chk4 v9_0 v12_0) (k0_t4 : Fin (k0_t4_loop v9_0 v12_0).trips) (k0_t5 : Fin (k0_t5_loop v9_0 v12_0 k0_t4).trips), ∀ (r : Fin 16), ∀ a, (k0_off5 v9_0 v12_0 k0_t4 k0_t5 (BitVec.ofNat 32 (16 * r.val))) a + S16.size a ≤ S16384.size a := fun v9_0 v12_0 k0_hw4 k0_t4 k0_t5 r => k0_hw4.2.2.2.1 k0_t4 k0_t5 r
theorem k0_t6_ok : ∀ (v9_0 : BitVec 32) (v12_0 : BitVec 32) (k0_hw4 : k0_chk4 v9_0 v12_0) (k0_t4 : Fin (k0_t4_loop v9_0 v12_0).trips), (k0_t6_loop v9_0 v12_0 k0_t4).OK := fun v9_0 v12_0 k0_hw4 k0_t4 => k0_hw4.2.2.2.2.1 k0_t4
theorem k0_off6_inb : ∀ (v9_0 : BitVec 32) (v12_0 : BitVec 32) (k0_hw4 : k0_chk4 v9_0 v12_0) (k0_t4 : Fin (k0_t4_loop v9_0 v12_0).trips) (k0_t6 : Fin (k0_t6_loop v9_0 v12_0 k0_t4).trips), ∀ (r : Fin 16), ∀ a, (k0_off6 v9_0 v12_0 k0_t4 k0_t6 (BitVec.ofNat 32 (16 * r.val))) a + S16.size a ≤ S16384.size a := fun v9_0 v12_0 k0_hw4 k0_t4 k0_t6 r => k0_hw4.2.2.2.2.2.1 k0_t4 k0_t6 r
theorem k0_t7_ok : ∀ (v9_0 : BitVec 32) (v12_0 : BitVec 32) (k0_hw4 : k0_chk4 v9_0 v12_0), (k0_t7_loop v9_0 v12_0).OK := fun v9_0 v12_0 k0_hw4 => k0_hw4.2.2.2.2.2.2.1
theorem k0_off7_inb : ∀ (v9_0 : BitVec 32) (v12_0 : BitVec 32) (k0_hw4 : k0_chk4 v9_0 v12_0) (k0_t7 : Fin (k0_t7_loop v9_0 v12_0).trips), ∀ a, (k0_off7 v9_0 v12_0 k0_t7) a + S16384.size a ≤ S2560000.size a := fun v9_0 v12_0 k0_hw4 k0_t7 => k0_hw4.2.2.2.2.2.2.2.1 k0_t7
theorem k0_t8_ok : ∀ (v9_0 : BitVec 32) (v12_0 : BitVec 32) (k0_hw4 : k0_chk4 v9_0 v12_0) (k0_t7 : Fin (k0_t7_loop v9_0 v12_0).trips), (k0_t8_loop v9_0 v12_0 k0_t7).OK := fun v9_0 v12_0 k0_hw4 k0_t7 => k0_hw4.2.2.2.2.2.2.2.2.1 k0_t7
theorem k0_off8_inb : ∀ (v9_0 : BitVec 32) (v12_0 : BitVec 32) (k0_hw4 : k0_chk4 v9_0 v12_0) (k0_t7 : Fin (k0_t7_loop v9_0 v12_0).trips) (k0_t8 : Fin (k0_t8_loop v9_0 v12_0 k0_t7).trips), ∀ (r : Fin 16), ∀ a, (k0_off8 v9_0 v12_0 k0_t7 k0_t8 (BitVec.ofNat 32 (16 * r.val))) a + S16.size a ≤ S16384.size a := fun v9_0 v12_0 k0_hw4 k0_t7 k0_t8 r => k0_hw4.2.2.2.2.2.2.2.2.2.1 k0_t7 k0_t8 r
theorem k0_t9_ok : ∀ (v9_0 : BitVec 32) (v12_0 : BitVec 32) (k0_hw4 : k0_chk4 v9_0 v12_0) (k0_t7 : Fin (k0_t7_loop v9_0 v12_0).trips), (k0_t9_loop v9_0 v12_0 k0_t7).OK := fun v9_0 v12_0 k0_hw4 k0_t7 => k0_hw4.2.2.2.2.2.2.2.2.2.2.1 k0_t7
theorem k0_off9_inb : ∀ (v9_0 : BitVec 32) (v12_0 : BitVec 32) (k0_hw4 : k0_chk4 v9_0 v12_0) (k0_t7 : Fin (k0_t7_loop v9_0 v12_0).trips) (k0_t9 : Fin (k0_t9_loop v9_0 v12_0 k0_t7).trips), ∀ (r : Fin 16), ∀ a, (k0_off9 v9_0 v12_0 k0_t7 k0_t9 (BitVec.ofNat 32 (16 * r.val))) a + S16.size a ≤ S16384.size a := fun v9_0 v12_0 k0_hw4 k0_t7 k0_t9 r => k0_hw4.2.2.2.2.2.2.2.2.2.2.2 k0_t7 k0_t9 r

def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let c0_i32_18 : BitVec 32 := 0#32
  let v16 : BitVec 32 := Scalar.addi v6 c0_i32_18
  let c3_i32 : BitVec 32 := 3#32
  let v210 : BitVec 32 := Scalar.muli v16 c3_i32
  let c256_i32 : BitVec 32 := 256#32
  let v211 : BitVec 32 := Scalar.muli v210 c256_i32
  ![v211.toNat]
@[reducible] def k0_t10_loop (v12_0 : BitVec 32) (v15_0 : BitVec 32) : Scf.Loop 32 :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_46 : BitVec 32 := 1#32
  ⟨c0_i32_44, v238, c1_i32_46⟩

def k0_off11 (v12_0 : BitVec 32) (v15_0 : BitVec 32) (k0_t10 : Fin (k0_t10_loop v12_0 v15_0).trips) : Fin 1 → Nat :=
  let c0_i32_44 : BitVec 32 := 0#32
  let c1_i32_46 : BitVec 32 := 1#32
  let arg8 : BitVec 32 := Scf.iv c0_i32_44 c1_i32_46 k0_t10
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let c256_i32_102 : BitVec 32 := 256#32
  let v415 : BitVec 32 := Scalar.muli v410 c256_i32_102
  ![v415.toNat]
@[reducible] def k0_t11_loop (v12_0 : BitVec 32) (v15_0 : BitVec 32) (k0_t10 : Fin (k0_t10_loop v12_0 v15_0).trips) : Scf.Loop 32 :=
  let c0_i32_44 : BitVec 32 := 0#32
  let c1_i32_46 : BitVec 32 := 1#32
  let arg8 : BitVec 32 := Scf.iv c0_i32_44 c1_i32_46 k0_t10
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_104 : BitVec 32 := 1#32
  ⟨v411, v420, c1_i32_104⟩
def k0_off12 (v12_0 : BitVec 32) (v15_0 : BitVec 32) (k0_t10 : Fin (k0_t10_loop v12_0 v15_0).trips) (k0_t11 : Fin (k0_t11_loop v12_0 v15_0 k0_t10).trips) (c0_i32_107 : BitVec 32) : Fin 1 → Nat :=
  let c0_i32_44 : BitVec 32 := 0#32
  let c1_i32_46 : BitVec 32 := 1#32
  let arg8 : BitVec 32 := Scf.iv c0_i32_44 c1_i32_46 k0_t10
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c1_i32_104 : BitVec 32 := 1#32
  let arg41 : BitVec 32 := Scf.iv v411 c1_i32_104 k0_t11
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t12_loop (v12_0 : BitVec 32) (v15_0 : BitVec 32) (k0_t10 : Fin (k0_t10_loop v12_0 v15_0).trips) : Scf.Loop 32 :=
  let c0_i32_44 : BitVec 32 := 0#32
  let c1_i32_46 : BitVec 32 := 1#32
  let arg8 : BitVec 32 := Scf.iv c0_i32_44 c1_i32_46 k0_t10
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let v417 : BitVec 32 := Scalar.addi v411 v416
  let c1_i32_105 : BitVec 32 := 1#32
  ⟨v420, v417, c1_i32_105⟩
def k0_off13 (v12_0 : BitVec 32) (v15_0 : BitVec 32) (k0_t10 : Fin (k0_t10_loop v12_0 v15_0).trips) (k0_t12 : Fin (k0_t12_loop v12_0 v15_0 k0_t10).trips) (c0_i32_107 : BitVec 32) : Fin 1 → Nat :=
  let c0_i32_44 : BitVec 32 := 0#32
  let c1_i32_46 : BitVec 32 := 1#32
  let arg8 : BitVec 32 := Scf.iv c0_i32_44 c1_i32_46 k0_t10
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_105 : BitVec 32 := 1#32
  let arg41 : BitVec 32 := Scf.iv v420 c1_i32_105 k0_t12
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t13_loop (v12_0 : BitVec 32) (v15_0 : BitVec 32) : Scf.Loop 32 :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let v235 : BitVec 32 := Scalar.addi c0_i32_44 v234
  let c1_i32_47 : BitVec 32 := 1#32
  ⟨v238, v235, c1_i32_47⟩
def k0_off14 (v12_0 : BitVec 32) (v15_0 : BitVec 32) (k0_t13 : Fin (k0_t13_loop v12_0 v15_0).trips) : Fin 1 → Nat :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_47 : BitVec 32 := 1#32
  let arg8 : BitVec 32 := Scf.iv v238 c1_i32_47 k0_t13
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let c256_i32_102 : BitVec 32 := 256#32
  let v415 : BitVec 32 := Scalar.muli v410 c256_i32_102
  ![v415.toNat]
@[reducible] def k0_t14_loop (v12_0 : BitVec 32) (v15_0 : BitVec 32) (k0_t13 : Fin (k0_t13_loop v12_0 v15_0).trips) : Scf.Loop 32 :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_47 : BitVec 32 := 1#32
  let arg8 : BitVec 32 := Scf.iv v238 c1_i32_47 k0_t13
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_104 : BitVec 32 := 1#32
  ⟨v411, v420, c1_i32_104⟩
def k0_off15 (v12_0 : BitVec 32) (v15_0 : BitVec 32) (k0_t13 : Fin (k0_t13_loop v12_0 v15_0).trips) (k0_t14 : Fin (k0_t14_loop v12_0 v15_0 k0_t13).trips) (c0_i32_107 : BitVec 32) : Fin 1 → Nat :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_47 : BitVec 32 := 1#32
  let arg8 : BitVec 32 := Scf.iv v238 c1_i32_47 k0_t13
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c1_i32_104 : BitVec 32 := 1#32
  let arg41 : BitVec 32 := Scf.iv v411 c1_i32_104 k0_t14
  let c256_i32_106 : BitVec 32 := 256#32
  let v423 : BitVec 32 := Scalar.muli arg41 c256_i32_106
  let v424 : BitVec 32 := Scalar.addi v423 c0_i32_107
  let v425 : Index := Scalar.indexCast v424
  ![v425.toNat]
@[reducible] def k0_t15_loop (v12_0 : BitVec 32) (v15_0 : BitVec 32) (k0_t13 : Fin (k0_t13_loop v12_0 v15_0).trips) : Scf.Loop 32 :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_47 : BitVec 32 := 1#32
  let arg8 : BitVec 32 := Scf.iv v238 c1_i32_47 k0_t13
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let v417 : BitVec 32 := Scalar.addi v411 v416
  let c1_i32_105 : BitVec 32 := 1#32
  ⟨v420, v417, c1_i32_105⟩
def k0_off16 (v12_0 : BitVec 32) (v15_0 : BitVec 32) (k0_t13 : Fin (k0_t13_loop v12_0 v15_0).trips) (k0_t15 : Fin (k0_t15_loop v12_0 v15_0 k0_t13).trips) (c0_i32_107 : BitVec 32) : Fin 1 → Nat :=
  let c0_i32_44 : BitVec 32 := 0#32
  let v213 : BitVec 32 := Scalar.subi v15_0 v12_0
  let c63_i32_34 : BitVec 32 := 63#32
  let v214 : BitVec 32 := Scalar.addi v213 c63_i32_34
  let c0_i32_36 : BitVec 32 := 0#32
  let v216 : BitVec 1 := Scalar.cmpi .sgt v214 c0_i32_36
  let v217 : BitVec 32 := Scalar.extui v216
  let c0_i32_37 : BitVec 32 := 0#32
  let v218 : BitVec 1 := Scalar.cmpi .slt v214 c0_i32_37
  let v219 : BitVec 32 := Scalar.extui v218
  let v220 : BitVec 32 := Scalar.subi v217 v219
  let c64_i32_35 : BitVec 32 := 64#32
  let c0_i32_38 : BitVec 32 := 0#32
  let v221 : BitVec 1 := Scalar.cmpi .sgt c64_i32_35 c0_i32_38
  let v222 : BitVec 32 := Scalar.extui v221
  let c0_i32_39 : BitVec 32 := 0#32
  let v223 : BitVec 1 := Scalar.cmpi .slt c64_i32_35 c0_i32_39
  let v224 : BitVec 32 := Scalar.extui v223
  let v225 : BitVec 32 := Scalar.subi v222 v224
  let v226 : BitVec 1 := Scalar.cmpi .ne v220 v225
  let v227 : BitVec 32 := Scalar.remsi v214 c64_i32_35
  let c0_i32_40 : BitVec 32 := 0#32
  let v228 : BitVec 1 := Scalar.cmpi .ne v227 c0_i32_40
  let v229 : BitVec 1 := Scalar.andi v226 v228
  let v215 : BitVec 32 := Scalar.divsi v214 c64_i32_35
  let c1_i32_41 : BitVec 32 := 1#32
  let v230 : BitVec 32 := Scalar.subi v215 c1_i32_41
  let v231 : BitVec 32 := Scalar.select v229 v230 v215
  let v234 : BitVec 32 := Scalar.subi v231 c0_i32_44
  let c1_i32_45 : BitVec 32 := 1#32
  let v236 : BitVec 32 := Scalar.divsi v234 c1_i32_45
  let v237 : BitVec 32 := Scalar.muli v236 c1_i32_45
  let v238 : BitVec 32 := Scalar.addi c0_i32_44 v237
  let c1_i32_47 : BitVec 32 := 1#32
  let arg8 : BitVec 32 := Scf.iv v238 c1_i32_47 k0_t13
  let c64_i32_100 : BitVec 32 := 64#32
  let v408 : BitVec 32 := Scalar.muli arg8 c64_i32_100
  let v409 : BitVec 32 := Scalar.addi v12_0 v408
  let c9936_i32 : BitVec 32 := 9936#32
  let v410 : BitVec 32 := Scalar.minsi v409 c9936_i32
  let v411 : BitVec 32 := Scalar.subi v409 v410
  let c64_i32_101 : BitVec 32 := 64#32
  let v412 : BitVec 32 := Scalar.subi v15_0 v409
  let v413 : BitVec 32 := Scalar.minsi c64_i32_101 v412
  let v414 : BitVec 32 := Scalar.addi v411 v413
  let v416 : BitVec 32 := Scalar.subi v414 v411
  let c1_i32_103 : BitVec 32 := 1#32
  let v418 : BitVec 32 := Scalar.divsi v416 c1_i32_103
  let v419 : BitVec 32 := Scalar.muli v418 c1_i32_103
  let v420 : BitVec 32 := Scalar.addi v411 v419
  let c1_i32_105 : BitVec 32 := 1#32
  let arg41 : BitVec 32 := Scf.iv v420 c1_i32_105 k0_t15
  let c256_i32_106 : BitVec 32 := 256#32
  let v423 : BitVec 32 := Scalar.muli arg41 c256_i32_106
  let v424 : BitVec 32 := Scalar.addi v423 c0_i32_107
  let v425 : Index := Scalar.indexCast v424
  ![v425.toNat]

def k0_chk5 (v12_0 : BitVec 32) (v15_0 : BitVec 32) : Prop :=
  ((k0_t10_loop v12_0 v15_0).OK) ∧
  (∀ k0_t10 : Fin (k0_t10_loop v12_0 v15_0).trips, ∀ a, (k0_off11 v12_0 v15_0 k0_t10) a + S16384.size a ≤ S2560000.size a) ∧
  (∀ k0_t10 : Fin (k0_t10_loop v12_0 v15_0).trips, (k0_t11_loop v12_0 v15_0 k0_t10).OK) ∧
  (∀ (k0_t10 : Fin (k0_t10_loop v12_0 v15_0).trips) (k0_t11 : Fin (k0_t11_loop v12_0 v15_0 k0_t10).trips), ∀ (r : Fin 16), ∀ a, (k0_off12 v12_0 v15_0 k0_t10 k0_t11 (BitVec.ofNat 32 (16 * r.val))) a + S16.size a ≤ S16384.size a) ∧
  (∀ k0_t10 : Fin (k0_t10_loop v12_0 v15_0).trips, (k0_t12_loop v12_0 v15_0 k0_t10).OK) ∧
  (∀ (k0_t10 : Fin (k0_t10_loop v12_0 v15_0).trips) (k0_t12 : Fin (k0_t12_loop v12_0 v15_0 k0_t10).trips), ∀ (r : Fin 16), ∀ a, (k0_off13 v12_0 v15_0 k0_t10 k0_t12 (BitVec.ofNat 32 (16 * r.val))) a + S16.size a ≤ S16384.size a) ∧
  ((k0_t13_loop v12_0 v15_0).OK) ∧
  (∀ k0_t13 : Fin (k0_t13_loop v12_0 v15_0).trips, ∀ a, (k0_off14 v12_0 v15_0 k0_t13) a + S16384.size a ≤ S2560000.size a) ∧
  (∀ k0_t13 : Fin (k0_t13_loop v12_0 v15_0).trips, (k0_t14_loop v12_0 v15_0 k0_t13).OK) ∧
  (∀ (k0_t13 : Fin (k0_t13_loop v12_0 v15_0).trips) (k0_t14 : Fin (k0_t14_loop v12_0 v15_0 k0_t13).trips), ∀ (r : Fin 16), ∀ a, (k0_off15 v12_0 v15_0 k0_t13 k0_t14 (BitVec.ofNat 32 (16 * r.val))) a + S16.size a ≤ S16384.size a) ∧
  (∀ k0_t13 : Fin (k0_t13_loop v12_0 v15_0).trips, (k0_t15_loop v12_0 v15_0 k0_t13).OK) ∧
  (∀ (k0_t13 : Fin (k0_t13_loop v12_0 v15_0).trips) (k0_t15 : Fin (k0_t15_loop v12_0 v15_0 k0_t13).trips), ∀ (r : Fin 16), ∀ a, (k0_off16 v12_0 v15_0 k0_t13 k0_t15 (BitVec.ofNat 32 (16 * r.val))) a + S16.size a ≤ S16384.size a)
theorem k0_t10_ok : ∀ (v12_0 : BitVec 32) (v15_0 : BitVec 32) (k0_hw5 : k0_chk5 v12_0 v15_0), (k0_t10_loop v12_0 v15_0).OK := fun v12_0 v15_0 k0_hw5 => k0_hw5.1
theorem k0_off11_inb : ∀ (v12_0 : BitVec 32) (v15_0 : BitVec 32) (k0_hw5 : k0_chk5 v12_0 v15_0) (k0_t10 : Fin (k0_t10_loop v12_0 v15_0).trips), ∀ a, (k0_off11 v12_0 v15_0 k0_t10) a + S16384.size a ≤ S2560000.size a := fun v12_0 v15_0 k0_hw5 k0_t10 => k0_hw5.2.1 k0_t10
theorem k0_t11_ok : ∀ (v12_0 : BitVec 32) (v15_0 : BitVec 32) (k0_hw5 : k0_chk5 v12_0 v15_0) (k0_t10 : Fin (k0_t10_loop v12_0 v15_0).trips), (k0_t11_loop v12_0 v15_0 k0_t10).OK := fun v12_0 v15_0 k0_hw5 k0_t10 => k0_hw5.2.2.1 k0_t10
theorem k0_off12_inb : ∀ (v12_0 : BitVec 32) (v15_0 : BitVec 32) (k0_hw5 : k0_chk5 v12_0 v15_0) (k0_t10 : Fin (k0_t10_loop v12_0 v15_0).trips) (k0_t11 : Fin (k0_t11_loop v12_0 v15_0 k0_t10).trips), ∀ (r : Fin 16), ∀ a, (k0_off12 v12_0 v15_0 k0_t10 k0_t11 (BitVec.ofNat 32 (16 * r.val))) a + S16.size a ≤ S16384.size a := fun v12_0 v15_0 k0_hw5 k0_t10 k0_t11 r => k0_hw5.2.2.2.1 k0_t10 k0_t11 r
theorem k0_t12_ok : ∀ (v12_0 : BitVec 32) (v15_0 : BitVec 32) (k0_hw5 : k0_chk5 v12_0 v15_0) (k0_t10 : Fin (k0_t10_loop v12_0 v15_0).trips), (k0_t12_loop v12_0 v15_0 k0_t10).OK := fun v12_0 v15_0 k0_hw5 k0_t10 => k0_hw5.2.2.2.2.1 k0_t10
theorem k0_off13_inb : ∀ (v12_0 : BitVec 32) (v15_0 : BitVec 32) (k0_hw5 : k0_chk5 v12_0 v15_0) (k0_t10 : Fin (k0_t10_loop v12_0 v15_0).trips) (k0_t12 : Fin (k0_t12_loop v12_0 v15_0 k0_t10).trips), ∀ (r : Fin 16), ∀ a, (k0_off13 v12_0 v15_0 k0_t10 k0_t12 (BitVec.ofNat 32 (16 * r.val))) a + S16.size a ≤ S16384.size a := fun v12_0 v15_0 k0_hw5 k0_t10 k0_t12 r => k0_hw5.2.2.2.2.2.1 k0_t10 k0_t12 r
theorem k0_t13_ok : ∀ (v12_0 : BitVec 32) (v15_0 : BitVec 32) (k0_hw5 : k0_chk5 v12_0 v15_0), (k0_t13_loop v12_0 v15_0).OK := fun v12_0 v15_0 k0_hw5 => k0_hw5.2.2.2.2.2.2.1
theorem k0_off14_inb : ∀ (v12_0 : BitVec 32) (v15_0 : BitVec 32) (k0_hw5 : k0_chk5 v12_0 v15_0) (k0_t13 : Fin (k0_t13_loop v12_0 v15_0).trips), ∀ a, (k0_off14 v12_0 v15_0 k0_t13) a + S16384.size a ≤ S2560000.size a := fun v12_0 v15_0 k0_hw5 k0_t13 => k0_hw5.2.2.2.2.2.2.2.1 k0_t13
theorem k0_t14_ok : ∀ (v12_0 : BitVec 32) (v15_0 : BitVec 32) (k0_hw5 : k0_chk5 v12_0 v15_0) (k0_t13 : Fin (k0_t13_loop v12_0 v15_0).trips), (k0_t14_loop v12_0 v15_0 k0_t13).OK := fun v12_0 v15_0 k0_hw5 k0_t13 => k0_hw5.2.2.2.2.2.2.2.2.1 k0_t13
theorem k0_off15_inb : ∀ (v12_0 : BitVec 32) (v15_0 : BitVec 32) (k0_hw5 : k0_chk5 v12_0 v15_0) (k0_t13 : Fin (k0_t13_loop v12_0 v15_0).trips) (k0_t14 : Fin (k0_t14_loop v12_0 v15_0 k0_t13).trips), ∀ (r : Fin 16), ∀ a, (k0_off15 v12_0 v15_0 k0_t13 k0_t14 (BitVec.ofNat 32 (16 * r.val))) a + S16.size a ≤ S16384.size a := fun v12_0 v15_0 k0_hw5 k0_t13 k0_t14 r => k0_hw5.2.2.2.2.2.2.2.2.2.1 k0_t13 k0_t14 r
theorem k0_t15_ok : ∀ (v12_0 : BitVec 32) (v15_0 : BitVec 32) (k0_hw5 : k0_chk5 v12_0 v15_0) (k0_t13 : Fin (k0_t13_loop v12_0 v15_0).trips), (k0_t15_loop v12_0 v15_0 k0_t13).OK := fun v12_0 v15_0 k0_hw5 k0_t13 => k0_hw5.2.2.2.2.2.2.2.2.2.2.1 k0_t13
theorem k0_off16_inb : ∀ (v12_0 : BitVec 32) (v15_0 : BitVec 32) (k0_hw5 : k0_chk5 v12_0 v15_0) (k0_t13 : Fin (k0_t13_loop v12_0 v15_0).trips) (k0_t15 : Fin (k0_t15_loop v12_0 v15_0 k0_t13).trips), ∀ (r : Fin 16), ∀ a, (k0_off16 v12_0 v15_0 k0_t13 k0_t15 (BitVec.ofNat 32 (16 * r.val))) a + S16.size a ≤ S16384.size a := fun v12_0 v15_0 k0_hw5 k0_t13 k0_t15 r => k0_hw5.2.2.2.2.2.2.2.2.2.2.2 k0_t13 k0_t15 r

def k0_off17 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v6 : BitVec 32 := Scalar.muli v1 c2_i32_0
  let c1_i32_33 : BitVec 32 := 1#32
  let v212 : BitVec 32 := Scalar.addi v6 c1_i32_33
  let c3_i32_98 : BitVec 32 := 3#32
  let v406 : BitVec 32 := Scalar.muli v212 c3_i32_98
  let c256_i32_99 : BitVec 32 := 256#32
  let v407 : BitVec 32 := Scalar.muli v406 c256_i32_99
  ![v407.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S10000 : Shape := ⟨1, ![10000]⟩
abbrev S1x10000 : Shape := ⟨2, ![1, 10000]⟩
abbrev S64 : Shape := ⟨1, ![64]⟩
abbrev S64x1 : Shape := ⟨2, ![64, 1]⟩
abbrev S64x10000 : Shape := ⟨2, ![64, 10000]⟩
abbrev S64x10000x1 : Shape := ⟨3, ![64, 10000, 1]⟩
abbrev S1x10000x256 : Shape := ⟨3, ![1, 10000, 256]⟩
abbrev S_ : Shape := ⟨0, ![]⟩
abbrev S64x10000x256 : Shape := ⟨3, ![64, 10000, 256]⟩
abbrev S64x256 : Shape := ⟨2, ![64, 256]⟩
abbrev S10000x1 : Shape := ⟨2, ![10000, 1]⟩
abbrev S64x768 : Shape := ⟨2, ![64, 768]⟩

abbrev nBuf : Space → Nat
  | .hbm => 35
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S10000, .i32⟩
  | .hbm, ⟨3, _⟩ => ⟨S1x10000, .i32⟩
  | .hbm, ⟨4, _⟩ => ⟨S64, .i32⟩
  | .hbm, ⟨5, _⟩ => ⟨S64x1, .i32⟩
  | .hbm, ⟨6, _⟩ => ⟨S64x10000, .i32⟩
  | .hbm, ⟨7, _⟩ => ⟨S64x10000, .i32⟩
  | .hbm, ⟨8, _⟩ => ⟨S64x10000, .i1⟩
  | .hbm, ⟨9, _⟩ => ⟨S64x10000x1, .i1⟩
  | .hbm, ⟨10, _⟩ => ⟨S1x10000x256, .f32⟩
  | .hbm, ⟨11, _⟩ => ⟨S_, .f32⟩
  | .hbm, ⟨12, _⟩ => ⟨S_, .f32⟩
  | .hbm, ⟨13, _⟩ => ⟨S64x10000x256, .i1⟩
  | .hbm, ⟨14, _⟩ => ⟨S64x10000x256, .f32⟩
  | .hbm, ⟨15, _⟩ => ⟨S64x10000x256, .f32⟩
  | .hbm, ⟨16, _⟩ => ⟨S64x10000x256, .f32⟩
  | .hbm, ⟨17, _⟩ => ⟨S_, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S10000x1, .i32⟩
  | .hbm, ⟨22, _⟩ => ⟨S64x256, .f32⟩
  | .hbm, ⟨23, _⟩ => ⟨S_, .f32⟩
  | .hbm, ⟨24, _⟩ => ⟨S10000x1, .f32⟩
  | .hbm, ⟨25, _⟩ => ⟨S_, .f32⟩
  | .hbm, ⟨26, _⟩ => ⟨S64x1, .f32⟩
  | .hbm, ⟨27, _⟩ => ⟨S10000x1, .i32⟩
  | .hbm, ⟨28, _⟩ => ⟨S64x1, .f32⟩
  | .hbm, ⟨29, _⟩ => ⟨S_, .f32⟩
  | .hbm, ⟨30, _⟩ => ⟨S64x1, .f32⟩
  | .hbm, ⟨31, _⟩ => ⟨S64x1, .f32⟩
  | .hbm, ⟨32, _⟩ => ⟨S64x256, .f32⟩
  | .hbm, ⟨33, _⟩ => ⟨S64x256, .f32⟩
  | .hbm, ⟨34, _⟩ => ⟨S64x768, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.WordFacts.lean ====
/-
  Facts about 32-bit words that the kernel's index arithmetic needs and that name no program: the floor division jax
  prints for a signed word, and the loops whose bounds are words known to be small.
-/
module

public import Idealize.ShloMosaic.Lib.Affine
public import Idealize.ShloMosaic.Lib.WordArith
public import Idealize.ShloMosaic.Lib.LoopRemainder

@[expose] public section

namespace Cert.Proof

open Idealize.ShloMosaic Idealize.ShloMosaic.Affine

/-- The floor division of two signed words as jax spells it: the truncated quotient, less one where the signs differ and
    the remainder is not zero. -/
def floorDiv (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem isInt_toInt {x : BitVec 32} {e : Int} (h : IsInt x e) : x.toInt = e := by
  unfold IsInt at h; exact h

theorem isInt_of {x : BitVec 32} {e : Int} (h : x.toInt = e) : IsInt x e := by
  unfold IsInt; exact h

/-- On a word that is not negative the floor division by a positive word is the quotient of the integers. -/
theorem floorDiv_of_nonneg {x d : BitVec 32} {z k : Int} (hx : IsInt x z) (hd : IsInt d k) (hz : 0 ≤ z) (hk : 0 < k) :
    IsInt (floorDiv x d) (z / k) := by
  have h0 : IsInt 0#32 0 := Affine.ofNat 0 (by omega)
  have h1 : IsInt 1#32 1 := Affine.ofNat 1 (by omega)
  have hdiv := Affine.divsi hx hd (e := z / k) ⟨rfl, hz, hk⟩
  unfold floorDiv
  by_cases hz0 : z = 0
  · have hrem := Affine.remsi hx hd (e := 0) ⟨by subst hz0; simp, hz, hk⟩
    have hc := Affine.andi_fails_right (c := Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32)))) trivial (Affine.ne_fails hrem h0 rfl)
    have : Scalar.select _ (Scalar.subi (Scalar.divsi x d) 1#32) (Scalar.divsi x d) = Scalar.divsi x d := if_neg hc
    rw [this]; exact hdiv
  · have e1 := Affine.subi (Affine.extui_holds (Affine.sgt_holds hx h0 (by omega)) rfl) (Affine.extui_fails (Affine.slt_fails hx h0 (by omega)) rfl) (e := 1) (by omega)
    have e2 := Affine.subi (Affine.extui_holds (Affine.sgt_holds hd h0 (by omega)) rfl) (Affine.extui_fails (Affine.slt_fails hd h0 (by omega)) rfl) (e := 1) (by omega)
    have hc := Affine.andi_fails_left (d := Scalar.cmpi .ne (Scalar.remsi x d) 0#32) (Affine.ne_fails e1 e2 rfl) trivial
    have : Scalar.select _ (Scalar.subi (Scalar.divsi x d) 1#32) (Scalar.divsi x d) = Scalar.divsi x d := if_neg hc
    rw [this]; exact hdiv

/-- On a negative word (above `-2^30`) the floor division by 64 is not positive, and not below `-2^30`. -/
theorem floorDiv_of_neg {x : BitVec 32} {z : Int} (hx : IsInt x z) (hz : z < 0) (hz' : -2 ^ 29 ≤ z) :
    ∃ q : Int, IsInt (floorDiv x 64#32) q ∧ q ≤ 0 ∧ -2 ^ 30 ≤ q := by
  have hw : z.tdiv 64 = -((-z) / 64) := by
    rw [← Int.tdiv_eq_ediv_of_nonneg (by omega : (0 : Int) ≤ -z), Int.neg_tdiv, Int.neg_neg]
  have b1 : z.tdiv 64 ≤ 0 := by omega
  have b2 : -2 ^ 29 ≤ z.tdiv 64 := by omega
  have hq : (Scalar.divsi x 64#32).toInt = z.tdiv 64 := by
    have hc : ¬ IntOp.SDivCorner x 64#32 := by
      rintro (h | ⟨-, h⟩) <;> exact absurd h (by decide)
    rw [Scalar.divsi, IntOp.divsi, if_neg hc, BitVec.toInt_sdiv, isInt_toInt hx]
    have e : (64#32 : BitVec 32).toInt = 64 := by decide
    rw [e]
    refine Int.bmod_eq_of_le ?_ ?_ <;> omega
  have hdiv := isInt_of hq
  have h1 : IsInt 1#32 1 := Affine.ofNat 1 (by omega)
  have hsub := Affine.subi hdiv h1 (e := z.tdiv 64 - 1) (by omega)
  unfold floorDiv Scalar.select
  split
  · exact ⟨_, hsub, by omega, by omega⟩
  · exact ⟨_, hdiv, by omega, by omega⟩

/-- A loop by steps of one between words that read as `l` and `u`: its trips. -/
theorem trips_of {lb ub : BitVec 32} {l u : Int} (hl : IsInt lb l) (hu : IsInt ub u) :
    Scf.trips lb ub 1#32 = (u - l).toNat := by
  have e1 : (1#32 : BitVec 32).toInt = 1 := by decide
  unfold Scf.trips
  rw [isInt_toInt hl, isInt_toInt hu, e1]
  congr 1; omega

/-- Such a loop has a meaning where its bounds are far from the words' ends. -/
theorem ok_of {lb ub : BitVec 32} {l u : Int} (hl : IsInt lb l) (hu : IsInt ub u) (h1 : l < 2 ^ 31) (h2 : u < 2 ^ 31) :
    Scf.OK lb ub 1#32 := by
  have e1 : (1#32 : BitVec 32).toInt = 1 := by decide
  refine ⟨by rw [e1]; omega, ?_⟩
  rw [trips_of hl hu, isInt_toInt hl, e1]
  omega

end Cert.Proof

end
-- ==== Proof.Search.lean ====
/-
  The bisection the kernel finds a graph's first row with, on the integers: fourteen halvings of `[0, 10000]` over a
  function `G` of the row number, each keeping the half where the first row not below `g` lies.
-/
module

public import Idealize.ShloMosaic.Lib.Affine

@[expose] public section

namespace Cert.Proof

/-- One halving of `[lo, hi]`: the upper half past the middle row when that row is below `g`, else the lower half. -/
def stp (G : ℕ → ℤ) (g : ℤ) (p : ℕ × ℕ) : ℕ × ℕ :=
  if G ((p.1 + p.2) / 2) < g then ((p.1 + p.2) / 2 + 1, p.2) else (p.1, (p.1 + p.2) / 2)

/-- The interval after `n` halvings. -/
def srch (G : ℕ → ℤ) (g : ℤ) : ℕ → ℕ × ℕ
  | 0 => (0, 10000)
  | n + 1 => stp G g (srch G g n)

/-- Where the search ends. -/
def lbnd (G : ℕ → ℤ) (g : ℤ) : ℕ := (srch G g 14).1

/-- The interval stays one, inside `[0, 10000]`, and its upper end is not below `g`: for every `G` with the last row
    not below `g`. -/
theorem srch_inv {G : ℕ → ℤ} {g : ℤ} (h : g ≤ G 10000) (n : ℕ) :
    (srch G g n).1 ≤ (srch G g n).2 ∧ (srch G g n).2 ≤ 10000 ∧ g ≤ G (srch G g n).2 := by
  induction n with
  | zero => exact ⟨by simp [srch], by simp [srch], h⟩
  | succ n ih =>
    obtain ⟨h1, h2, h3⟩ := ih
    generalize hp : srch G g n = p at *
    simp only [srch, hp, stp]
    split
    · rename_i hlt
      have : (p.1 + p.2) / 2 ≠ p.2 := fun e => by rw [e] at hlt; omega
      exact ⟨by dsimp only; omega, h2, h3⟩
    · exact ⟨by dsimp only; omega, by dsimp only; omega, by dsimp only; omega⟩

theorem lbnd_le {G : ℕ → ℤ} {g : ℤ} (h : g ≤ G 10000) : lbnd G g ≤ 10000 := by
  have := srch_inv h 14; unfold lbnd; omega

/-- On rows in order, the interval halves and everything before it is below `g`. -/
theorem srch_sorted {G : ℕ → ℤ} {g : ℤ} (h : g ≤ G 10000) (hm : ∀ i j, i ≤ j → j ≤ 10000 → G i ≤ G j) (n : ℕ) (hn : n ≤ 14) :
    (srch G g n).2 - (srch G g n).1 < 2 ^ (14 - n) ∧ ∀ i < (srch G g n).1, G i < g := by
  induction n with
  | zero => exact ⟨by simp [srch], by simp [srch]⟩
  | succ n ih =>
    obtain ⟨i1, i2⟩ := ih (by omega)
    obtain ⟨h1, h2, h3⟩ := srch_inv h n
    have e : 2 ^ (14 - n) = 2 * 2 ^ (14 - (n + 1)) := by
      rw [show 14 - n = (14 - (n + 1)) + 1 by omega, pow_succ, Nat.mul_comm]
    generalize hp : srch G g n = p at *
    generalize 2 ^ (14 - (n + 1)) = w at *
    simp only [srch, hp, stp]
    split
    · rename_i hlt
      have : (p.1 + p.2) / 2 ≠ p.2 := fun e => by rw [e] at hlt; omega
      refine ⟨by dsimp only; omega, fun i hi => ?_⟩
      dsimp only at hi
      exact lt_of_le_of_lt (hm i _ (by omega) (by omega)) hlt
    · exact ⟨by dsimp only; omega, i2⟩

/-- On rows in order, the search finds the first row not below `g`: the rows before it are below `g`, the rest not. -/
theorem lbnd_iff {G : ℕ → ℤ} {g : ℤ} (h : g ≤ G 10000) (hm : ∀ i j, i ≤ j → j ≤ 10000 → G i ≤ G j) {i : ℕ} (hi : i ≤ 10000) :
    i < lbnd G g ↔ G i < g := by
  obtain ⟨h1, h2, h3⟩ := srch_inv h 14
  obtain ⟨i1, i2⟩ := srch_sorted h hm 14 le_rfl
  unfold lbnd
  refine ⟨i2 i, fun hl => ?_⟩
  by_contra hc
  have := hm (srch G g 14).2 i (by simp at i1; omega) hi
  omega

end Cert.Proof
-- ==== Proof.KernelIdeal.Words.lean ====
/-
  The kernel's index arithmetic, on the words of two row numbers `a` and `b` of a segment `[a, b)`: how many chunks of 64
  rows the segment takes, which rows a chunk fetches, how many rows of it are the segment's, and that every access lies
  inside its buffer.
-/
module

public import proofs.«01_k».proof.Proof.Gen.KernelIdeal
public import proofs.«01_k».proof.Proof.WordFacts
public import proofs.«01_k».proof.Proof.Search

@[expose] public section

noncomputable section

namespace Cert.Proof.KernelIdeal

open Cert.KernelIdeal Cert.KernelIdeal.Gen Idealize.ShloMosaic Idealize.ShloMosaic.Affine Cert.Proof

/-- The word of a row number. -/
abbrev wd (n : Nat) : BitVec 32 := BitVec.ofNat 32 n

theorem wd_int {n : Nat} (h : n ≤ 10000) : IsInt (wd n) n := Affine.ofNat n (by omega)

/-- The number of chunks of 64 rows in the segment `[a, b)`, none when it is empty or turned round. -/
abbrev chunks (a b : Nat) : Nat := (b - a + 63) / 64

/-- The first row chunk `k` of the segment from `a` adds. -/
abbrev row0 (a k : Nat) : Nat := a + 64 * k

/-- The first row that chunk fetches: the last 64 rows are never overrun. -/
abbrev base (a k : Nat) : Nat := min (row0 a k) 9936

theorem quot {a b : Nat} (ha : a ≤ 10000) (hb : b ≤ 10000) :
    ∃ q : Int, IsInt (floorDiv (Scalar.addi (Scalar.subi (wd b) (wd a)) 63#32) 64#32) q ∧ q.toNat = chunks a b ∧ -2 ^ 30 ≤ q ∧ q ≤ 200 := by
  have h63 : IsInt 63#32 63 := Affine.ofNat 63 (by omega)
  have h64 : IsInt 64#32 64 := Affine.ofNat 64 (by omega)
  have hv := Affine.addi (Affine.subi (wd_int hb) (wd_int ha) (e := (b : Int) - a) (by omega)) h63 (e := (b : Int) - a + 63) (by omega)
  unfold chunks
  by_cases hz : (0 : Int) ≤ (b : Int) - a + 63
  · refine ⟨_, floorDiv_of_nonneg hv h64 hz (by omega), ?_, ?_, ?_⟩ <;> omega
  · obtain ⟨q, hq, h1, h2⟩ := floorDiv_of_neg hv (by omega) (by omega)
    exact ⟨q, hq, by omega, h2, by omega⟩

/-! ## The search's words -/

/-- The word of the middle row. -/
theorem mid_int {p : ℕ × ℕ} (h1 : p.1 ≤ p.2) (h2 : p.2 ≤ 10000) :
    IsInt (floorDiv (Scalar.addi (wd p.1) (wd p.2)) 2#32) (((p.1 + p.2) / 2 : Nat) : Int) := by
  have hi2 : IsInt 2#32 2 := Affine.ofNat 2 (by omega)
  have hs := Affine.addi (wd_int (by omega : p.1 ≤ 10000)) (wd_int h2) (e := (p.1 : Int) + p.2) (by omega)
  have := floorDiv_of_nonneg hs hi2 (by omega) (by omega)
  push_cast; exact this

theorem mid_eq {p : ℕ × ℕ} (h1 : p.1 ≤ p.2) (h2 : p.2 ≤ 10000) :
    floorDiv (Scalar.addi (wd p.1) (wd p.2)) 2#32 = wd ((p.1 + p.2) / 2) :=
  BitVec.eq_of_toInt_eq ((isInt_toInt (mid_int h1 h2)).trans (isInt_toInt (wd_int (by omega))).symm)

/-- The sixteen words the search loads start at the middle row. -/
theorem off1_eq {p : ℕ × ℕ} (h1 : p.1 ≤ p.2) (h2 : p.2 ≤ 10000) : k0_off1 (wd p.1) (wd p.2) = ![(p.1 + p.2) / 2] := by
  have := Affine.toNat_of (mid_int h1 h2) (by omega)
  exact congrArg (fun n => ![n]) (Int.ofNat.inj this)

theorem chk1_of_le {p : ℕ × ℕ} (h1 : p.1 ≤ p.2) (h2 : p.2 ≤ 10000) : k0_chk1 (wd p.1) (wd p.2) := by
  unfold k0_chk1
  rw [off1_eq h1 h2]
  refine Fin.forall_fin_one.2 ?_
  show (p.1 + p.2) / 2 + 16 ≤ 10016
  omega

theorem succ_eq {n : ℕ} : Scalar.addi (wd n) 1#32 = wd (n + 1) := (BitVec.ofNat_add n 1).symm

/-- What a trip of the search yields, on the word it read and the graph number's, is the halving of the integers. -/
theorem step_eq {G : ℕ → ℤ} {g : ℤ} {p : ℕ × ℕ} (h1 : p.1 ≤ p.2) (h2 : p.2 ≤ 10000) {v gw : BitVec 32}
    (hv : v.toInt = G ((p.1 + p.2) / 2)) (hg : gw.toInt = g) :
    (Scalar.select (Scalar.cmpi .slt v gw) (Scalar.addi (floorDiv (Scalar.addi (wd p.1) (wd p.2)) 2#32) 1#32) (wd p.1),
      Scalar.select (Scalar.cmpi .slt v gw) (wd p.2) (floorDiv (Scalar.addi (wd p.1) (wd p.2)) 2#32))
      = (wd (stp G g p).1, wd (stp G g p).2) := by
  rw [mid_eq h1 h2, succ_eq]
  unfold stp
  split
  · rename_i hlt
    have hc : Scalar.cmpi .slt v gw = 1 := Affine.slt_holds (isInt_of hv) (isInt_of hg) hlt
    exact Prod.ext (if_pos hc) (if_pos hc)
  · rename_i hlt
    have hc : ¬ Scalar.cmpi .slt v gw = 1 := Affine.slt_fails (isInt_of hv) (isInt_of hg) hlt
    exact Prod.ext (if_neg hc) (if_neg hc)

section seg
variable {a b : Nat}

theorem t4_bounds (ha : a ≤ 10000) (hb : b ≤ 10000) : ∃ q : Int, q.toNat = chunks a b ∧ -2 ^ 30 ≤ q ∧ q ≤ 200 ∧
    IsInt (k0_t4_loop (wd a) (wd b)).lb 0 ∧ IsInt (k0_t4_loop (wd a) (wd b)).ub q := by
  obtain ⟨q, hq, h1, h2, h3⟩ := quot ha hb
  have h0 : IsInt 0#32 0 := Affine.ofNat 0 (by omega)
  have h1' : IsInt 1#32 1 := Affine.ofNat 1 (by omega)
  refine ⟨q, h1, h2, h3, h0, ?_⟩
  have e : (k0_t4_loop (wd a) (wd b)).ub = Scalar.addi 0#32 (Scalar.muli (Scalar.divsi (Scalar.subi (floorDiv (Scalar.addi (Scalar.subi (wd b) (wd a)) 63#32) 64#32) 0#32) 1#32) 1#32) := rfl
  rw [e, Scalar.muli_divsi_one]
  exact Affine.addi h0 (Affine.subi hq h0 (e := q) (by omega)) (by omega)

/-- The chunk loop of the first segment runs once per chunk. -/
theorem t4_trips (ha : a ≤ 10000) (hb : b ≤ 10000) : (k0_t4_loop (wd a) (wd b)).trips = chunks a b := by
  obtain ⟨q, h1, -, -, hl, hu⟩ := t4_bounds ha hb
  show Scf.trips _ _ 1#32 = _
  rw [trips_of hl hu]; omega

theorem t4_OK (ha : a ≤ 10000) (hb : b ≤ 10000) : (k0_t4_loop (wd a) (wd b)).OK := by
  obtain ⟨q, h1, h2, h3, hl, hu⟩ := t4_bounds ha hb
  exact ok_of hl hu (by omega) (by omega)

variable (ha : a ≤ 10000) (hb : b ≤ 10000) (k : Fin (k0_t4_loop (wd a) (wd b)).trips)
include ha hb

/-- A chunk that runs starts inside the segment. -/
theorem t4_lt : row0 a k.1 < b := by
  have := Nat.lt_of_lt_of_eq k.2 (t4_trips ha hb); unfold row0; unfold chunks at this; omega

theorem v409_int : IsInt (Scalar.addi (wd a) (Scalar.muli (Scf.iv 0#32 1#32 k.1) 64#32)) (row0 a k.1) := by
  have hlt := t4_lt ha hb k
  unfold row0 at *
  have h0 : IsInt 0#32 0 := Affine.ofNat 0 (by omega)
  have h1 : IsInt 1#32 1 := Affine.ofNat 1 (by omega)
  have h64 : IsInt 64#32 64 := Affine.ofNat 64 (by omega)
  exact Affine.addi (wd_int ha) (Affine.muli (Affine.iv h0 h1 k.1 (e := k.1) (by omega)) h64 (e := (k.1 : Int) * 64) (by omega)) (by omega)

theorem v410_int : IsInt (Scalar.minsi (Scalar.addi (wd a) (Scalar.muli (Scf.iv 0#32 1#32 k.1) 64#32)) 9936#32) (base a k.1) := by
  have h : IsInt 9936#32 9936 := Affine.ofNat 9936 (by omega)
  exact Affine.minsi (v409_int ha hb k) h (by unfold base; omega)

/-- The chunk's fetch starts at its first row. -/
theorem off4_eq : k0_off4 (wd a) (wd b) k = ![base a k.1 * 256] := by
  have h : IsInt 256#32 256 := Affine.ofNat 256 (by omega)
  have hm := Affine.muli (v410_int ha hb k) h (e := ((base a k.1 * 256 : Nat) : Int)) (by unfold base; push_cast; omega)
  have := Affine.toNat_of hm (by omega)
  unfold k0_off4
  exact congrArg (fun n => ![n]) (by omega)

theorem t5_bounds : IsInt (k0_t5_loop (wd a) (wd b) k).lb ((row0 a k.1 : Int) - base a k.1) ∧
    IsInt (k0_t5_loop (wd a) (wd b) k).ub ((row0 a k.1 : Int) - base a k.1 + min 64 ((b : Int) - row0 a k.1)) := by
  have hlt := t4_lt ha hb k
  have h64 : IsInt 64#32 64 := Affine.ofNat 64 (by omega)
  have h409 := v409_int ha hb k
  have h410 := v410_int ha hb k
  unfold base row0 at *
  have h411 := Affine.subi h409 h410 (e := _ - _) ⟨rfl, by omega, by omega⟩
  have h412 := Affine.subi (wd_int hb) h409 (e := _ - _) ⟨rfl, by omega, by omega⟩
  have h413 := Affine.minsi h64 h412 rfl
  have h414 := Affine.addi h411 h413 (e := _ + _) ⟨rfl, by omega, by omega⟩
  have h416 := Affine.subi h414 h411 (e := min 64 ((b : Int) - (a + 64 * k.1 : Nat))) (by omega)
  refine ⟨h411, ?_⟩
  have e : (k0_t5_loop (wd a) (wd b) k).ub = Scalar.addi (Scalar.subi (Scalar.addi (wd a) (Scalar.muli (Scf.iv 0#32 1#32 k.1) 64#32)) (Scalar.minsi (Scalar.addi (wd a) (Scalar.muli (Scf.iv 0#32 1#32 k.1) 64#32)) 9936#32)) (Scalar.muli (Scalar.divsi _ 1#32) 1#32) := rfl
  rw [e, Scalar.muli_divsi_one]
  exact Affine.addi h411 h416 ⟨rfl, by omega, by omega⟩

/-- The row loop runs once per row of the segment in the chunk. -/
theorem t5_trips : (k0_t5_loop (wd a) (wd b) k).trips = min 64 (b - row0 a k.1) := by
  obtain ⟨hl, hu⟩ := t5_bounds ha hb k
  have hlt := t4_lt ha hb k
  show Scf.trips _ _ 1#32 = _
  rw [trips_of hl hu]; unfold row0 at *; omega

theorem t5_OK : (k0_t5_loop (wd a) (wd b) k).OK := by
  obtain ⟨hl, hu⟩ := t5_bounds ha hb k
  have hlt := t4_lt ha hb k
  refine ok_of hl hu ?_ ?_ <;> unfold base row0 at * <;> omega

variable (t : Fin (k0_t5_loop (wd a) (wd b) k).trips)

theorem t5_lt : t.1 < 64 ∧ row0 a k.1 + t.1 < b := by
  have := Nat.lt_of_lt_of_eq t.2 (t5_trips ha hb k); unfold row0 at *; omega

/-- The word of lane group `c` of row `t` of the chunk, as an integer. -/
theorem off5_int {c : BitVec 32} {n : Nat} (hc : IsInt c n) (hn : n ≤ 240) :
    IsInt (Scalar.addi (Scalar.muli (Scf.iv (k0_t5_loop (wd a) (wd b) k).lb 1#32 t.1) 256#32) c)
      (((row0 a k.1 - base a k.1 + t.1) * 256 + n : Nat) : Int) := by
  obtain ⟨hl, -⟩ := t5_bounds ha hb k
  obtain ⟨ht, ht'⟩ := t5_lt ha hb k t
  have h256 : IsInt 256#32 256 := Affine.ofNat 256 (by omega)
  have h1 : IsInt 1#32 1 := Affine.ofNat 1 (by omega)
  have hlt := t4_lt ha hb k
  unfold base row0 at *
  have hi := Affine.iv hl h1 t.1 (e := ((a + 64 * k.1 - min (a + 64 * k.1) 9936 + t.1 : Nat) : Int)) (by omega)
  exact Affine.addi (Affine.muli hi h256 (e := ((a + 64 * k.1 - min (a + 64 * k.1) 9936 + t.1 : Nat) : Int) * 256) (by omega)) hc (by omega)

/-- Where the lane group is loaded from. -/
theorem off5_eq {c : BitVec 32} {n : Nat} (hc : IsInt c n) (hn : n ≤ 240) :
    k0_off5 (wd a) (wd b) k t c = ![(row0 a k.1 - base a k.1 + t.1) * 256 + n] := by
  have hm := off5_int ha hb k t hc hn
  have := Affine.toNat_of hm (by omega)
  unfold k0_off5
  exact congrArg (fun n => ![n]) (Int.ofNat.inj this)

/-- A row of the chunk lies among the 64 that were fetched. -/
theorem row_lt : row0 a k.1 - base a k.1 + t.1 < 64 := by
  obtain ⟨ht, ht'⟩ := t5_lt ha hb k t
  have hlt := t4_lt ha hb k
  unfold base row0 at *; omega

omit ha hb k t in
theorem r_int (r : Fin 16) : IsInt (BitVec.ofNat 32 (16 * r.val)) ((16 * r.val : Nat) : Int) := Affine.ofNat _ (by omega)

end seg

/-- The facts the first segment's loops stand under hold for every two row numbers. -/
theorem chk4_of_le {a b : Nat} (ha : a ≤ 10000) (hb : b ≤ 10000) : k0_chk4 (wd a) (wd b) := by
  refine ⟨t4_OK ha hb, fun k => ?_, fun k => t5_OK ha hb k, fun k t r => ?_, fun k => ?_, fun k t => ?_, ?_, fun k => ?_, fun k => ?_, fun k => ?_, fun k => ?_, fun k => ?_⟩
  · rw [off4_eq ha hb k]
    refine Fin.forall_fin_one.2 ?_
    show base a k.1 * 256 + 16384 ≤ 2560000
    unfold base; omega
  · rw [off5_eq ha hb k t (r_int r) (by omega)]
    have := row_lt ha hb k t
    refine Fin.forall_fin_one.2 ?_
    show (row0 a k.1 - base a k.1 + t.1) * 256 + 16 * r.1 + 16 ≤ 16384
    omega
  · exact Scf.rem_ok _ _
  · exact (Scf.rem_no_trip _ _ t).elim
  · exact Scf.rem_ok _ _
  all_goals exact (Scf.rem_no_trip _ _ k).elim

/-- The second segment's loops compute as the first's, on their own words. -/
theorem chk5_eq (v w : BitVec 32) : k0_chk5 v w = k0_chk4 v w := rfl

theorem chk5_of_le {a b : Nat} (ha : a ≤ 10000) (hb : b ≤ 10000) : k0_chk5 (wd a) (wd b) := chk4_of_le ha hb

end Cert.Proof.KernelIdeal

end
-- ==== Proof.KernelIdeal.Base.lean ====
/-
  The program as the launch theorem sees it, the resource algebra of its proof, and the names of a tile's buffers and
  thread.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.LoopRemainder
public import Idealize.ShloMosaic.Lib.ShareLeaves
public import Idealize.ShloMosaic.Lib.Writes
public import Idealize.ShloMosaic.Lib.VecWindow
public import Idealize.ShloMosaic.Lib.Pipeline.Value
public import Idealize.ShloMosaic.Lib.Tactic
public import proofs.«01_k».proof.Proof.KernelIdeal.Words

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's semaphores and shared buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters
abbrev MM (F : FTy → Type) : Type := MT nD τ sig (HIx 1) (Elt F) ℕ UU ℕ
abbrev EH : Emb UH (MT nD τ sig (HIx 1) (Elt F) ℕ UU ℕ) := embL

/-! ## A tile's buffers -/

/-- The rows, flat; the graph numbers; the output, flat. -/
abbrev xV : Memref sig .scVector .hbm S2560000 .f32 := Memref.whole main_v0_scv
abbrev giV : Memref sig .scVector .hbm S10000 .i32 := Memref.whole main_arg2_scv
abbrev oV : Memref sig .scVector .hbm S49152 .f32 := Memref.whole main_v1_scv
/-- The tile's copy of the graph numbers, its chunk of rows, and its block of the output. -/
abbrev gV : Memref sig .scVector .vmem S10016 .i32 := Memref.whole cc0_scratch0
abbrev bV : Memref sig .scVector .vmem S16384 .f32 := Memref.whole cc0_scratch1
abbrev sV : Memref sig .scVector .vmem S768 .f32 := Memref.whole cc0_scratch2

abbrev cV (L : grid0.Coords) : Fin τ.nSC := (L 0).castLE hcore0
abbrev jV (L : grid0.Coords) : Fin τ.nSub := (L 1).castLE hsub0

/-- The thread of the tile at grid coordinates `L`. -/
abbrev thr (d : Dev nD) (L : grid0.Coords) : Thread nD τ := V d (cV L) (jV L)

/-- The number of the first of the tile's two graphs. -/
abbrev gid (L : grid0.Coords) : ℕ := 2 * (2 * (L 1).1 + (L 0).1)

theorem gid_le (L : grid0.Coords) : gid L ≤ 62 := by
  have h0 : (L 0).1 < 2 := (L 0).2
  have h1 : (L 1).1 < 16 := (L 1).2
  unfold gid; omega

/-- Its word, as the tile computes it from its coordinates. -/
abbrev gword (L : grid0.Coords) : BitVec 32 :=
  Scalar.muli (Scalar.addi (Scalar.muli (BitVec.ofNat 32 (L 1).1) 2#32) (BitVec.ofNat 32 (L 0).1)) 2#32

theorem gword_int (L : grid0.Coords) : Affine.IsInt (gword L) (gid L) := by
  have h0 : (L 0).1 < 2 := (L 0).2
  have h1 : (L 1).1 < 16 := (L 1).2
  have h2 : Affine.IsInt 2#32 2 := Affine.ofNat 2 (by omega)
  have a := Affine.muli (Affine.ofNat (L 1).1 (e := (L 1).1) (by omega)) h2 (e := (L 1).1 * 2) (by omega)
  have b := Affine.addi a (Affine.ofNat (L 0).1 (e := (L 0).1) (by omega)) (e := (L 1).1 * 2 + (L 0).1) (by omega)
  exact Affine.muli b h2 (by unfold gid; push_cast; omega)

theorem gword_add (L : grid0.Coords) (n : ℕ) (hn : n ≤ 2) : (Scalar.addi (gword L) (BitVec.ofNat 32 n)).toInt = ((gid L + n : ℕ) : ℤ) :=
  isInt_toInt (Affine.addi (gword_int L) (Affine.ofNat n (e := n) (by omega)) (by have := gid_le L; push_cast; omega))

/-- The graph numbers as the tile keeps them: 64, no graph's number, behind them. -/
def gbuf (gi : S10000.Idx → BitVec 32) : S10016.Idx → BitVec 32 :=
  fun j => if h : (j 0).1 < 10000 then gi (fun | 0 => ⟨(j 0).1, h⟩) else 64#32

/-- Row `n`'s graph number as an integer, 64 past the last row. -/
def gnum (gi : S10000.Idx → BitVec 32) (n : ℕ) : ℤ :=
  if h : n < 10000 then (gi (fun | 0 => ⟨n, h⟩)).toInt else 64

theorem gbuf_toInt (gi : S10000.Idx → BitVec 32) (j : S10016.Idx) : (gbuf gi j).toInt = gnum gi (j 0).1 := by
  unfold gbuf gnum; split
  · rfl
  · decide

theorem gnum_last (gi : S10000.Idx → BitVec 32) {g : ℤ} (h : g ≤ 64) : g ≤ gnum gi 10000 := by
  unfold gnum; simpa using h

/-- Where the search for graph number `g` ends: the first row of graph `g` when the rows are in order. -/
abbrev bnd (gi : S10000.Idx → BitVec 32) (g : ℕ) : ℕ := lbnd (gnum gi) g

theorem bnd_le (gi : S10000.Idx → BitVec 32) {g : ℕ} (h : g ≤ 64) : bnd gi g ≤ 10000 :=
  lbnd_le (gnum_last gi (by omega))

/-- A program of the tile run after another: what the first leaves is what the second starts from. -/
theorem wp_seq [FloatOps F] (d : Dev nD) (L : grid0.Coords) {α β : Type} {p : Prog (TpuEff nD τ sig (Elt F) Λ₀ (thr d L).2) α}
    {k : α → Prog (TpuEff nD τ sig (Elt F) Λ₀ (thr d L).2) β} {A : sProp (MM F)} {Φ : α → sProp (MM F)} {Q : β → sProp (MM F)}
    (h : A ⊢ wp frame (wpE (defs₀ (F := F)) 𝒱₀ (thr d L) none) Set.univ p Φ) :
    iprop(A ∗ ∀ a, Φ a -∗ wp frame (wpE (defs₀ (F := F)) 𝒱₀ (thr d L) none) Set.univ (k a) Q)
      ⊢ wp frame (wpE (defs₀ (F := F)) 𝒱₀ (thr d L) none) Set.univ (p >>= k) Q := by
  rw [wp_bind]
  exact (sep_mono h .rfl).trans (wp_wand_r frame _ _)

end Cert.Proof.KernelIdeal

end
-- ==== Proof.KernelIdeal.Bisect.lean ====
/-
  The tile's searches: each loop of fourteen trips over the tile's copy of the graph numbers ends at the row the pure
  bisection ends at.
-/
module

public import proofs.«01_k».proof.Proof.KernelIdeal.Base

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid0.Coords)

/-- The search's invariant: the tile's copy of the graph numbers, and the two words those of the pure bisection. -/
def srchInv (gi : S10000.Idx → BitVec 32) (g : ℤ) (k : ℕ) (acc : BitVec 32 × BitVec 32) : sProp 𝕄 :=
  iprop(((gV).view.loc (thr d L) ↦{fullShare} (gbuf gi : Buf (Elt F) ((gV).view.loc (thr d L))))
    ∗ ⌜acc = (wd (srch (gnum gi) g k).1, wd (srch (gnum gi) g k).2)⌝)

/-- A trip of the first search keeps the invariant. -/
theorem srch_trip (gi : S10000.Idx → BitVec 32) {g : ℤ} {gw : BitVec 32} (hg : gw.toInt = g) (hle : g ≤ 64)
    (k : Fin k0_t1_loop.trips) (acc : BitVec 32 × BitVec 32) :
    srchInv (F := F) d L gi g k.1 acc ⊢ wp frame (wpE (defs₀ (F := F)) 𝒱₀ (thr d L) none) Set.univ
      (k0_t1_body L xV (Memref.isWhole_whole _) giV (Memref.isWhole_whole _) oV (Memref.isWhole_whole _) gV (Memref.isWhole_whole _)
        bV (Memref.isWhole_whole _) sV (Memref.isWhole_whole _) cc0_scoped0 cc0_scoped1 cc0_scoped2 cc0_scoped3 cc0_scoped4 cc0_scoped5 cc0_scoped6 gw k acc)
      (srchInv (F := F) d L gi g (k.1 + 1)) := by
  unfold srchInv
  obtain ⟨h1, h2, -⟩ := srch_inv (gnum_last gi hle) k.1
  iintro ⟨Hg, %hacc⟩
  subst hacc
  have hc := chk1_of_le h1 h2
  unfold k0_t1_body
  sl_exec
  sl_step
  isplitl [Hg]; · iexact Hg
  ipureintro
  rw [← show stp (gnum gi) g (srch (gnum gi) g k.1) = srch (gnum gi) g (k.1 + 1) from rfl]
  rw [← step_eq h1 h2 (G := gnum gi) (v := srch_trip.sl.v430 gi k hc) (gw := gw) ?_ hg]
  · rfl
  · unfold srch_trip.sl.v430 srch_trip.sl.v427 k0_pay318
    have hib : ∀ a, (![((srch (gnum gi) g k.1).1 + (srch (gnum gi) g k.1).2) / 2] : Fin 1 → ℕ) a + S16.size a ≤ S10016.size a := by
      rw [← off1_eq h1 h2]; exact hc
    rw [View.readAt_unit _ _ _ (off1_eq h1 h2) hib]
    simp only [shapeCast_self, extractAt, extractStridedSlice, VecWindow.window]
    rw [View.read_whole, gbuf_toInt]
    rfl

variable (O : CellTallies nD τ sig (HIx 1)) (W : Waits sig (HIx 1))

/-- The waits recorded beyond `W` are at no call's index. -/
abbrev owed : sProp 𝕄 := iprop(∃ W', ⌜∀ p ∈ W', p ∈ W ∨ p.2 = none⌝ ∗ owes (thr d L) O W')

set_option maxHeartbeats 2000000 in
/-- The indices fetched into the front of the buffer and the sixteen words of padding written
    behind them make up the padded indices. -/
theorem gwrites (gi : S10000.Idx → BitVec 32) (f : S10000.Idx → BitVec 32) (hf : f = gi) :
    (gV).view.writes (Elt F) (gV).view.junk
      [⟨Rect.unit ![10000] S16.size inb_S10016_S16_10000, k0_pay317⟩,
        ⟨Rect.unit ![0] S10000.size inb_S10016_S10000_0, f⟩] = gbuf gi := by
  subst hf
  refine funext fun y => ?_
  generalize hl : ([_, _] : List (View.Piece (Elt F) S10016 .i32)) = l
  show (gV).view.read (Elt F) ((gV).view.writes (Elt F) (gV).view.junk l) y = gbuf f y
  subst hl
  refine (gV).view.read_writes_apply_of_pieces (Val := Elt F) (gV).view.junk (gbuf f) _ ?_ y ?_
  · intro p hp
    simp only [List.mem_cons, List.mem_nil_iff, or_false] at hp
    rcases hp with rfl | rfl
    · intro x
      have h : ((Rect.unit (s := S10016) ![10000] ![16] inb_S10016_S16_10000).emb x 0).1 = 10000 + 1 * (x 0).1 :=
        Rect.emb_apply _ x 0
      show (64#32 : BitVec 32) = _
      unfold gbuf
      rw [dif_neg (fun hlt => absurd (h ▸ hlt) (by omega))]
    · intro x
      have h : ((Rect.unit (s := S10016) ![0] ![10000] inb_S10016_S10000_0).emb x 0).1 = (x 0).1 :=
        (Rect.emb_apply _ x 0).trans (by show 0 + 1 * (x 0).1 = _; omega)
      unfold gbuf
      rw [dif_pos (by rw [h]; exact (x 0).2)]
      refine congrArg f (funext fun a => ?_)
      match a with
      | 0 => exact Fin.ext h.symm
  · by_cases h : (y 0).1 < 10000
    · refine ⟨_, List.mem_cons_of_mem _ (List.mem_singleton_self _), ?_⟩
      refine (Rect.mem_set_unit (inb := inb_S10016_S10000_0)).mpr fun a => ?_
      match a with
      | 0 => exact ⟨Nat.zero_le _, by show (y 0).1 < 0 + 10000; omega⟩
    · refine ⟨_, List.mem_cons_self, ?_⟩
      refine (Rect.mem_set_unit (inb := inb_S10016_S16_10000)).mpr fun a => ?_
      match a with
      | 0 =>
        have := (y 0).2
        exact ⟨by show 10000 ≤ (y 0).1; omega, by show (y 0).1 < 10000 + 16; exact this⟩

/-- The tile's first part: the graph numbers are fetched, 64 written behind them, and the three searches run. -/
theorem part17_wp (gi : S10000.Idx → BitVec 32) (q : PosShare TreeShare) (fg : Buf (Elt F) ((gV).view.loc (thr d L)))
    (h4 : k0_chk4 (wd (bnd gi (gid L))) (wd (bnd gi (gid L + 1)))) (h5 : k0_chk5 (wd (bnd gi (gid L + 1))) (wd (bnd gi (gid L + 2)))) :
    iprop(Transfers.MayWaits (thr d L) (default : HIx 1) O
        ∗ ((giV).view.loc (thr d L) ↦{q} (gi : Buf (Elt F) ((giV).view.loc (thr d L))))
        ∗ ((gV).view.loc (thr d L) ↦{fullShare} fg)
        ∗ semVal (thr d L, SemLoc.dma cc0_scoped0.sem) 0
        ∗ owed (F := F) d L O W)
      ⊢ wp frame (wpE (defs₀ (F := F)) 𝒱₀ (thr d L) none) Set.univ
        (k0_part17 L xV (Memref.isWhole_whole _) giV (Memref.isWhole_whole _) oV (Memref.isWhole_whole _) gV (Memref.isWhole_whole _)
          bV (Memref.isWhole_whole _) sV (Memref.isWhole_whole _) cc0_scoped0 cc0_scoped1 cc0_scoped2 cc0_scoped3 cc0_scoped4 cc0_scoped5 cc0_scoped6)
        fun r => iprop(⌜r = ⟨gword L, wd (bnd gi (gid L)), wd (bnd gi (gid L + 1)), h4, wd (bnd gi (gid L + 2)), h5, Scalar.addi (gword L) 0#32,
            Scalar.subi (wd (bnd gi (gid L + 1))) (wd (bnd gi (gid L))), 63#32⟩⌝
          ∗ ((giV).view.loc (thr d L) ↦{q} (gi : Buf (Elt F) ((giV).view.loc (thr d L))))
          ∗ ((gV).view.loc (thr d L) ↦{fullShare} (gbuf gi : Buf (Elt F) ((gV).view.loc (thr d L))))
          ∗ semVal (thr d L, SemLoc.dma cc0_scoped0.sem) 0
          ∗ owed (F := F) d L O W) := by
  rw [k0_part17_eq_skeleton]; unfold k0_part17_skel
  iintro ⟨Hmw, Hi, Hg, Hsem, %W', %hW', HO⟩
  sl_exec
  ihave Hg' := (Entails.of_eq (show ((gV).view.loc (thr d L) ↦{fullShare} (gV).view.writes (Elt F) (gV).view.junk (part17_wp.sl.Hg_2 gi) : sProp 𝕄)
    = (gV).view.loc (thr d L) ↦{fullShare} (gbuf gi : Buf (Elt F) ((gV).view.loc (thr d L))) by
      unfold part17_wp.sl.Hg_2
      exact congrArg _ (gwrites gi _ rfl))) $$ Hg
  sl_for (srchInv (F := F) d L gi ((gid L + 0 : ℕ) : ℤ)) $$ [Hg']
  case region =>
    intro k acc
    exact srch_trip d L gi (gword_add L 0 (by omega)) (by have := gid_le L; push_cast; omega) k acc
  · unfold srchInv
    isplitl [Hg']; · iexact Hg'
    ipureintro; rfl
  iintro %acc HI
  unfold srchInv
  icases HI with ⟨Hg', %hacc⟩
  subst hacc
  sl_exec
  sl_for (srchInv (F := F) d L gi ((gid L + 1 : ℕ) : ℤ)) $$ [Hg']
  case region =>
    intro k acc
    exact srch_trip d L gi (gword_add L 1 (by omega)) (by have := gid_le L; push_cast; omega) k acc
  · unfold srchInv
    isplitl [Hg']; · iexact Hg'
    ipureintro; rfl
  iintro %acc HI
  unfold srchInv
  icases HI with ⟨Hg', %hacc⟩
  subst hacc
  sl_exec
  sl_for (srchInv (F := F) d L gi ((gid L + 2 : ℕ) : ℤ)) $$ [Hg']
  case region =>
    intro k acc
    exact srch_trip d L gi (gword_add L 2 (by omega)) (by have := gid_le L; push_cast; omega) k acc
  · unfold srchInv
    isplitl [Hg']; · iexact Hg'
    ipureintro; rfl
  iintro %acc HI
  unfold srchInv
  icases HI with ⟨Hg', %hacc⟩
  subst hacc
  sl_exec
  sl_step
  isplitr
  · ipureintro; rfl
  isplitl [Hi]; · iexact Hi
  isplitl [Hg']; · iexact Hg'
  isplitl [Hsem]; · iexact Hsem
  iexists (insert (SemLoc.dma cc0_scoped0.sem, (default : HIx 1)) W')
  isplitr
  · ipureintro
    intro p hp
    rcases Finset.mem_insert.mp hp with hp | hp
    · exact .inr (hp ▸ rfl)
    · exact hW' p hp
  iexact HO

end Cert.Proof.KernelIdeal

end
-- ==== Proof.KernelIdeal.Rows.lean ====
/-
  The tile's rows: the loop over a chunk's rows adds each row to sixteen vectors and takes its maximum with sixteen
  others, and the loop over chunks carries both over all rows of the segment.
-/
module

public import proofs.«01_k».proof.Proof.KernelIdeal.Bisect

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid0.Coords)

/-- The word at position `n` of the flat rows. -/
def xat (x : S2560000.Idx → F .f32) (n : ℕ) : F .f32 := x (fun | 0 => ⟨n % 2560000, Nat.mod_lt _ (by decide)⟩)

/-- The sixteen words of lane group `r` of row `n`. -/
def lanes (x : S2560000.Idx → F .f32) (n : ℕ) (r : Fin 16) : FVec F S16 .f32 :=
  fun y => xat x (n * 256 + 16 * r.1 + (y 0).1)

/-- Lane group `r` summed over the `n` rows from row `a` on, in order. -/
def sumAcc (x : S2560000.Idx → F .f32) (a n : ℕ) (r : Fin 16) : FVec F S16 .f32 :=
  n.rec k0_pay321 fun i v => addf v (lanes x (a + i) r)

/-- Lane group `r`'s maximum over the `n` rows from row `a` on, in order. -/
def maxAcc (x : S2560000.Idx → F .f32) (a n : ℕ) (r : Fin 16) : FVec F S16 .f32 :=
  n.rec k0_pay322 fun i v => maximumf v (lanes x (a + i) r)

/-- What the loops carry: sixteen vectors of sums and sixteen of maxima. -/
abbrev Tup (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The carried vectors, from one family of sums and one of maxima. -/
def tup (S M : Fin 16 → FVec F S16 .f32) : Tup F := (S 0, S 1, S 2, S 3, S 4, S 5, S 6, S 7, S 8, S 9, S 10, S 11, S 12, S 13, S 14, S 15, M 0, M 1, M 2, M 3, M 4, M 5, M 6, M 7, M 8, M 9, M 10, M 11, M 12, M 13, M 14, M 15)

/-- What the loops carry once `n` rows from row `a` on are taken. -/
abbrev accs (x : S2560000.Idx → F .f32) (a n : ℕ) : Tup F := tup (sumAcc x a n) (maxAcc x a n)

/-- The buffer of rows once the 64 rows from row `b` on are fetched into it. -/
def rowsBuf (x : S2560000.Idx → F .f32) (b : ℕ) : S16384.Idx → F .f32 := fun j => xat x (b * 256 + (j 0).1)

section trip

variable {a b : ℕ} (ha : a ≤ 10000) (hb : b ≤ 10000) (x : S2560000.Idx → F .f32) (c0 c1 c2 c3 c4 c5 c6 : DmaSems sig S_)

/-- The sixteen words loaded for lane group `r` of row `t` of the chunk. -/
abbrev ld (f : S16384.Idx → F .f32) (h4 : k0_chk4 (wd a) (wd b)) (k : Fin (k0_t4_loop (wd a) (wd b)).trips)
    (t : Fin (k0_t5_loop (wd a) (wd b) k).trips) (r : Fin 16) : FVec F S16 .f32 :=
  shapeCast S16 ((bV).view.readAt (Elt F) (Rect.unit (s := S16384) (k0_off5 (wd a) (wd b) k t (BitVec.ofNat 32 (16 * r.1))) S16.size
    (k0_off5_inb (wd a) (wd b) h4 k t r)).toLoadRect f) shapeCasts_S16_S16

include ha hb in
theorem ld_eq (h4 : k0_chk4 (wd a) (wd b)) (k : Fin (k0_t4_loop (wd a) (wd b)).trips)
    (t : Fin (k0_t5_loop (wd a) (wd b) k).trips) (r : Fin 16) :
    ld (rowsBuf x (base a k.1)) h4 k t r = lanes x (a + (64 * k.1 + t.1)) r := by
  have he := off5_eq ha hb k t (r_int r) (by omega)
  have hib : ∀ i, (![(row0 a k.1 - base a k.1 + t.1) * 256 + 16 * r.1] : Fin 1 → ℕ) i + S16.size i ≤ S16384.size i := by
    rw [← he]; exact k0_off5_inb (wd a) (wd b) h4 k t r
  unfold ld
  rw [View.readAt_unit _ _ _ he hib]
  refine (shapeCast_self _ _).trans ?_
  funext y
  have hr := row_lt ha hb k t
  have hle : base a k.1 ≤ row0 a k.1 := Nat.min_le_left _ _
  have hv : ((Rect.unit (s := S16384) ![(row0 a k.1 - base a k.1 + t.1) * 256 + 16 * r.1] S16.size hib).emb y 0).1
      = (row0 a k.1 - base a k.1 + t.1) * 256 + 16 * r.1 + 1 * (y 0).1 := Rect.emb_apply _ y 0
  show xat x (base a k.1 * 256 + ((Rect.unit (s := S16384) ![(row0 a k.1 - base a k.1 + t.1) * 256 + 16 * r.1] S16.size hib).emb y 0).1)
    = xat x ((a + (64 * k.1 + t.1)) * 256 + 16 * r.1 + (y 0).1)
  rw [hv]
  refine congrArg (xat x) ?_
  unfold row0 at *
  omega

/-- The rows loop's invariant. -/
def rowInv (k : ℕ) (t : ℕ) (acc : Tup F) : sProp 𝕄 :=
  iprop(((bV).view.loc (thr d L) ↦{fullShare} (rowsBuf x (base a k) : Buf (Elt F) ((bV).view.loc (thr d L))))
    ∗ ⌜acc = accs x a (64 * k + t)⌝)

include ha hb in
/-- A trip of the rows loop keeps the invariant. -/
theorem row_trip (h4 : k0_chk4 (wd a) (wd b)) (k : Fin (k0_t4_loop (wd a) (wd b)).trips) (v17 c63 v411 : BitVec 32)
    (t : Fin (k0_t5_loop (wd a) (wd b) k).trips) (acc : Tup F) :
    rowInv (F := F) d L (a := a) x k.1 t.1 acc ⊢ wp frame (wpE (defs₀ (F := F)) 𝒱₀ (thr d L) none) Set.univ
      (k0_t5_body L xV (Memref.isWhole_whole _) giV (Memref.isWhole_whole _) oV (Memref.isWhole_whole _) gV (Memref.isWhole_whole _)
        bV (Memref.isWhole_whole _) sV (Memref.isWhole_whole _) c0 c1 c2 c3 c4 c5 c6
        (wd a) (wd b) h4 v17 c63 k v411 t acc)
      (rowInv (F := F) d L (a := a) x k.1 (t.1 + 1)) := by
  unfold rowInv
  iintro ⟨Hb, %hacc⟩
  subst hacc
  unfold accs tup k0_t5_body
  rw [k0_part1_eq_skeleton, k0_part2_eq_skeleton]
  unfold k0_part1_skel k0_part2_skel
  sl_exec
  sl_step
  isplitl [Hb]; · iexact Hb
  ipureintro
  have hl := fun r => ld_eq ha hb x h4 k t r
  refine Eq.trans (b := tup (fun r => addf (sumAcc x a (64 * k.1 + t.1) r) (ld (rowsBuf x (base a k.1)) h4 k t r))
    (fun r => maximumf (maxAcc x a (64 * k.1 + t.1) r) (ld (rowsBuf x (base a k.1)) h4 k t r))) rfl ?_
  simp only [hl]
  rfl

include ha hb in
/-- The 64 rows a chunk fetches, as the buffer of rows. -/
theorem fetch_eq (h4 : k0_chk4 (wd a) (wd b)) (k : Fin (k0_t4_loop (wd a) (wd b)).trips) (v : S16384.Idx → F .f32)
    (hv : v = ((xV).slice (Rect.unit (s := S2560000) (k0_off4 (wd a) (wd b) k) S16384.size (k0_off4_inb (wd a) (wd b) h4 k))
      (fun _ => rfl)).view.read (Elt F) x) : v = rowsBuf x (base a k.1) := by
  subst hv
  funext j
  refine (show _ = x ((Rect.unit (s := S2560000) (k0_off4 (wd a) (wd b) k) S16384.size (k0_off4_inb (wd a) (wd b) h4 k)).emb j) from rfl).trans ?_
  refine congrArg x (funext fun i => ?_)
  match i with
  | 0 =>
    refine Fin.ext ?_
    have hj : (j 0).1 < 16384 := (j 0).2
    have hle : base a k.1 ≤ 9936 := Nat.min_le_right _ _
    refine (Rect.emb_apply _ j 0).trans ?_
    show k0_off4 (wd a) (wd b) k 0 + 1 * (j 0).1 = (base a k.1 * 256 + (j 0).1) % 2560000
    rw [show k0_off4 (wd a) (wd b) k 0 = base a k.1 * 256 from congrFun (off4_eq ha hb k) 0]
    omega

/-- The chunks loop's invariant: the rows in HBM, some contents of the buffer of rows, the copy's semaphore at zero,
    and the vectors carried over the rows of the chunks done. -/
def chunkInv (q : PosShare TreeShare) (c : DmaSems sig S_) (O : CellTallies nD τ sig (HIx 1)) (W : Waits sig (HIx 1)) (k : ℕ)
    (acc : Tup F) : sProp 𝕄 :=
  iprop(Transfers.MayWaits (thr d L) (default : HIx 1) O
    ∗ ((xV).view.loc (thr d L) ↦{q} (x : Buf (Elt F) ((xV).view.loc (thr d L))))
    ∗ (∃ f : Buf (Elt F) ((bV).view.loc (thr d L)), (bV).view.loc (thr d L) ↦{fullShare} f)
    ∗ semVal (thr d L, SemLoc.dma c.sem) 0
    ∗ owed (F := F) d L O W
    ∗ ⌜acc = accs x a (min (64 * k) (b - a))⌝)

include ha hb in
/-- A trip of the chunks loop keeps the invariant. -/
theorem chunk_trip (q : PosShare TreeShare) (O : CellTallies nD τ sig (HIx 1)) (W : Waits sig (HIx 1))
    (h4 : k0_chk4 (wd a) (wd b)) (v17 c63 : BitVec 32) (k : Fin (k0_t4_loop (wd a) (wd b)).trips) (acc : Tup F) :
    chunkInv (F := F) d L (a := a) (b := b) x q c1 O W k.1 acc ⊢ wp frame (wpE (defs₀ (F := F)) 𝒱₀ (thr d L) none) Set.univ
      (k0_t4_body L xV (Memref.isWhole_whole _) giV (Memref.isWhole_whole _) oV (Memref.isWhole_whole _) gV (Memref.isWhole_whole _)
        bV (Memref.isWhole_whole _) sV (Memref.isWhole_whole _) c0 c1 c2 c3 c4 c5 c6
        (wd a) (wd b) h4 v17 c63 k acc)
      (chunkInv (F := F) d L (a := a) (b := b) x q c1 O W (k.1 + 1)) := by
  unfold chunkInv
  iintro ⟨#Hmw, Hx, ⟨%f, Hb⟩, Hsem, ⟨%W', %hW', HO⟩, %hacc⟩
  subst hacc
  unfold k0_t4_body
  sl_exec (disch := exact View.amount_pos _ _ (show 0 < S16384.numel by decide))
  have hlt := t4_lt ha hb k
  have hmin : min (64 * k.1) (b - a) = 64 * k.1 := by unfold row0 at hlt; omega
  have hf := fetch_eq ha hb x h4 k (chunk_trip.sl.dma0 x h4 k) rfl
  sl_for (rowInv (F := F) d L (a := a) x k.1) $$ [Hb]
  case region =>
    intro t acc
    exact row_trip d L ha hb x c0 c1 c2 c3 c4 c5 c6 h4 k v17 c63 _ t acc
  · unfold rowInv
    isplitl [Hb]
    · rw [hf, View.write_whole_univ]; iexact Hb
    · ipureintro; rw [hmin]; rfl
  iintro %acc HI
  unfold rowInv
  icases HI with ⟨Hb, %hacc⟩
  subst hacc
  unfold accs tup
  sl_exec
  sl_step
  isplitl []; · iexact Hmw
  isplitl [Hx]; · iexact Hx
  isplitl [Hb]; · iexists _; iexact Hb
  isplitl [Hsem]; · iexact Hsem
  isplitl [HO]
  · iexists (insert (SemLoc.dma c1.sem, (default : HIx 1)) W')
    isplitr
    · ipureintro
      intro p hp
      rcases Finset.mem_insert.mp hp with hp | hp
      · exact .inr (hp ▸ rfl)
      · exact hW' p hp
    iexact HO
  ipureintro
  have hn : 64 * k.1 + (k0_t5_loop (wd a) (wd b) k).trips = min (64 * (k.1 + 1)) (b - a) := by
    rw [t5_trips ha hb k]; unfold row0 at *; omega
  rw [← hn]

/-- A trip of the second segment's chunks loop is a trip of the first's, with the other semaphore for its copy. -/
theorem t10_body_eq (r0 r1 r2 r3 r4 r5 r6 : DmaSems sig S_) (v6 v w v16 : BitVec 32) (v44 v207 : FVec F S16 .f32) (h5 : k0_chk5 v w)
    (v17 c63 : BitVec 32) (k : Fin (k0_t10_loop v w).trips) (acc : Tup F) :
    k0_t10_body (F := F) L xV (Memref.isWhole_whole _) giV (Memref.isWhole_whole _) oV (Memref.isWhole_whole _) gV (Memref.isWhole_whole _)
        bV (Memref.isWhole_whole _) sV (Memref.isWhole_whole _) r0 r1 r2 r3 r4 r5 r6 v6 v w h5 v16 v44 v207 k acc
      = k0_t4_body (F := F) L xV (Memref.isWhole_whole _) giV (Memref.isWhole_whole _) oV (Memref.isWhole_whole _) gV (Memref.isWhole_whole _)
        bV (Memref.isWhole_whole _) sV (Memref.isWhole_whole _) r0 r4 r5 r3 r1 r2 r6 v w h5 v17 c63 k acc := rfl

end trip

end Cert.Proof.KernelIdeal

end
-- ==== Proof.KernelIdeal.Stage.lean ====
/-
  The tile's block of the output: 256 maxima, 256 means and 256 sums, written sixteen at a time.
-/
module

public import proofs.«01_k».proof.Proof.KernelIdeal.Rows

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid0.Coords)

/-- The lane group position `n` of a block lies in, and its lane. -/
def grp (n : ℕ) : Fin 16 := ⟨n / 16 % 16, Nat.mod_lt _ (by decide)⟩
def lane (n : ℕ) : S16.Idx := fun | 0 => ⟨n % 16, Nat.mod_lt _ (by decide)⟩

/-- Word `n` of a graph's block: the maxima, then the sums times the factor `w`, then the sums. -/
def blk (S M : Fin 16 → FVec F S16 .f32) (w : FVec F S16 .f32) (n : ℕ) : F .f32 :=
  if n < 256 then M (grp n) (lane n) else if n < 512 then mulf (S (grp n)) w (lane n) else S (grp n) (lane n)

/-- A graph's block. -/
def stage (S M : Fin 16 → FVec F S16 .f32) (w : FVec F S16 .f32) : S768.Idx → F .f32 := fun j => blk S M w (j 0).1

theorem grp_lane (o : ℕ) (r : Fin 16) (y : S16.Idx) (m : ℕ) (h : m = 256 * o + 16 * r.1 + 1 * (y 0).1) : grp m = r ∧ lane m = y := by
  have hy : (y 0).1 < 16 := (y 0).2
  refine ⟨Fin.ext (by show m / 16 % 16 = r.1; omega), funext fun a => ?_⟩
  match a with
  | 0 => exact Fin.ext (by show m % 16 = (y 0).1; omega)

theorem stage_max (S M : Fin 16 → FVec F S16 .f32) (w : FVec F S16 .f32) (r : Fin 16)
    (inb : ∀ a, (![16 * r.1] : Fin 1 → ℕ) a + S16.size a ≤ S768.size a) (y : S16.Idx) :
    shapeCast S16 (M r) shapeCasts_S16_S16 y = stage S M w ((Rect.unit (s := S768) ![16 * r.1] S16.size inb).emb y) := by
  have hm : ((Rect.unit (s := S768) ![16 * r.1] S16.size inb).emb y 0).1 = 256 * 0 + 16 * r.1 + 1 * (y 0).1 :=
    Eq.trans (b := 16 * r.1 + 1 * (y 0).1)
      (Rect.emb_apply (Rect.unit (s := S768) ![16 * r.1] S16.size inb) y 0) (by omega)
  have hy : (y 0).1 < 16 := (y 0).2
  obtain ⟨h1, h2⟩ := grp_lane 0 r y _ hm
  refine (congrFun (shapeCast_self _ _) y).trans ?_
  unfold stage blk
  rw [if_pos (by rw [hm]; omega), h1, h2]

theorem stage_mean (S M : Fin 16 → FVec F S16 .f32) (w : FVec F S16 .f32) (r : Fin 16)
    (inb : ∀ a, (![256 + 16 * r.1] : Fin 1 → ℕ) a + S16.size a ≤ S768.size a) (y : S16.Idx) :
    shapeCast S16 (mulf (S r) w) shapeCasts_S16_S16 y = stage S M w ((Rect.unit (s := S768) ![256 + 16 * r.1] S16.size inb).emb y) := by
  have hm : ((Rect.unit (s := S768) ![256 + 16 * r.1] S16.size inb).emb y 0).1 = 256 * 1 + 16 * r.1 + 1 * (y 0).1 :=
    Eq.trans (b := 256 + 16 * r.1 + 1 * (y 0).1)
      (Rect.emb_apply (Rect.unit (s := S768) ![256 + 16 * r.1] S16.size inb) y 0) (by omega)
  have hy : (y 0).1 < 16 := (y 0).2
  obtain ⟨h1, h2⟩ := grp_lane 1 r y _ hm
  refine (congrFun (shapeCast_self _ _) y).trans ?_
  unfold stage blk
  rw [if_neg (by rw [hm]; omega), if_pos (by rw [hm]; omega), h1, h2]

theorem stage_sum (S M : Fin 16 → FVec F S16 .f32) (w : FVec F S16 .f32) (r : Fin 16)
    (inb : ∀ a, (![512 + 16 * r.1] : Fin 1 → ℕ) a + S16.size a ≤ S768.size a) (y : S16.Idx) :
    shapeCast S16 (S r) shapeCasts_S16_S16 y = stage S M w ((Rect.unit (s := S768) ![512 + 16 * r.1] S16.size inb).emb y) := by
  have hm : ((Rect.unit (s := S768) ![512 + 16 * r.1] S16.size inb).emb y 0).1 = 256 * 2 + 16 * r.1 + 1 * (y 0).1 :=
    Eq.trans (b := 512 + 16 * r.1 + 1 * (y 0).1)
      (Rect.emb_apply (Rect.unit (s := S768) ![512 + 16 * r.1] S16.size inb) y 0) (by omega)
  have hy : (y 0).1 < 16 := (y 0).2
  obtain ⟨h1, h2⟩ := grp_lane 2 r y _ hm
  refine (congrFun (shapeCast_self _ _) y).trans ?_
  unfold stage blk
  rw [if_neg (by rw [hm]; omega), if_neg (by rw [hm]; omega), h1, h2]

/-- The block's forty-eight stores, the last first. -/
abbrev pieces (S M : Fin 16 → FVec F S16 .f32) (w : FVec F S16 .f32) : List (View.Piece (Elt F) S768 .f32) :=
  [ ⟨Rect.unit ![752] S16.size inb_S768_S16_752, shapeCast S16 (S 15) shapeCasts_S16_S16⟩,
    ⟨Rect.unit ![496] S16.size inb_S768_S16_496, shapeCast S16 (mulf (S 15) w) shapeCasts_S16_S16⟩,
    ⟨Rect.unit ![240] S16.size inb_S768_S16_240, shapeCast S16 (M 15) shapeCasts_S16_S16⟩,
    ⟨Rect.unit ![736] S16.size inb_S768_S16_736, shapeCast S16 (S 14) shapeCasts_S16_S16⟩,
    ⟨Rect.unit ![480] S16.size inb_S768_S16_480, shapeCast S16 (mulf (S 14) w) shapeCasts_S16_S16⟩,
    ⟨Rect.unit ![224] S16.size inb_S768_S16_224, shapeCast S16 (M 14) shapeCasts_S16_S16⟩,
    ⟨Rect.unit ![720] S16.size inb_S768_S16_720, shapeCast S16 (S 13) shapeCasts_S16_S16⟩,
    ⟨Rect.unit ![464] S16.size inb_S768_S16_464, shapeCast S16 (mulf (S 13) w) shapeCasts_S16_S16⟩,
    ⟨Rect.unit ![208] S16.size inb_S768_S16_208, shapeCast S16 (M 13) shapeCasts_S16_S16⟩,
    ⟨Rect.unit ![704] S16.size inb_S768_S16_704, shapeCast S16 (S 12) shapeCasts_S16_S16⟩,
    ⟨Rect.unit ![448] S16.size inb_S768_S16_448, shapeCast S16 (mulf (S 12) w) shapeCasts_S16_S16⟩,
    ⟨Rect.unit ![192] S16.size inb_S768_S16_192, shapeCast S16 (M 12) shapeCasts_S16_S16⟩,
    ⟨Rect.unit ![688] S16.size inb_S768_S16_688, shapeCast S16 (S 11) shapeCasts_S16_S16⟩,
    ⟨Rect.unit ![432] S16.size inb_S768_S16_432, shapeCast S16 (mulf (S 11) w) shapeCasts_S16_S16⟩,
    ⟨Rect.unit ![176] S16.size inb_S768_S16_176, shapeCast S16 (M 11) shapeCasts_S16_S16⟩,
    ⟨Rect.unit ![672] S16.size inb_S768_S16_672, shapeCast S16 (S 10) shapeCasts_S16_S16⟩,
    ⟨Rect.unit ![416] S16.size inb_S768_S16_416, shapeCast S16 (mulf (S 10) w) shapeCasts_S16_S16⟩,
    ⟨Rect.unit ![160] S16.size inb_S768_S16_160, shapeCast S16 (M 10) shapeCasts_S16_S16⟩,
    ⟨Rect.unit ![656] S16.size inb_S768_S16_656, shapeCast S16 (S 9) shapeCasts_S16_S16⟩,
    ⟨Rect.unit ![400] S16.size inb_S768_S16_400, shapeCast S16 (mulf (S 9) w) shapeCasts_S16_S16⟩,
    ⟨Rect.unit ![144] S16.size inb_S768_S16_144, shapeCast S16 (M 9) shapeCasts_S16_S16⟩,
    ⟨Rect.unit ![640] S16.size inb_S768_S16_640, shapeCast S16 (S 8) shapeCasts_S16_S16⟩,
    ⟨Rect.unit ![384] S16.size inb_S768_S16_384, shapeCast S16 (mulf (S 8) w) shapeCasts_S16_S16⟩,
    ⟨Rect.unit ![128] S16.size inb_S768_S16_128, shapeCast S16 (M 8) shapeCasts_S16_S16⟩,
    ⟨Rect.unit ![624] S16.size inb_S768_S16_624, shapeCast S16 (S 7) shapeCasts_S16_S16⟩,
    ⟨Rect.unit ![368] S16.size inb_S768_S16_368, shapeCast S16 (mulf (S 7) w) shapeCasts_S16_S16⟩,
    ⟨Rect.unit ![112] S16.size inb_S768_S16_112, shapeCast S16 (M 7) shapeCasts_S16_S16⟩,
    ⟨Rect.unit ![608] S16.size inb_S768_S16_608, shapeCast S16 (S 6) shapeCasts_S16_S16⟩,
    ⟨Rect.unit ![352] S16.size inb_S768_S16_352, shapeCast S16 (mulf (S 6) w) shapeCasts_S16_S16⟩,
    ⟨Rect.unit ![96] S16.size inb_S768_S16_96, shapeCast S16 (M 6) shapeCasts_S16_S16⟩,
    ⟨Rect.unit ![592] S16.size inb_S768_S16_592, shapeCast S16 (S 5) shapeCasts_S16_S16⟩,
    ⟨Rect.unit ![336] S16.size inb_S768_S16_336, shapeCast S16 (mulf (S 5) w) shapeCasts_S16_S16⟩,
    ⟨Rect.unit ![80] S16.size inb_S768_S16_80, shapeCast S16 (M 5) shapeCasts_S16_S16⟩,
    ⟨Rect.unit ![576] S16.size inb_S768_S16_576, shapeCast S16 (S 4) shapeCasts_S16_S16⟩,
    ⟨Rect.unit ![320] S16.size inb_S768_S16_320, shapeCast S16 (mulf (S 4) w) shapeCasts_S16_S16⟩,
    ⟨Rect.unit ![64] S16.size inb_S768_S16_64, shapeCast S16 (M 4) shapeCasts_S16_S16⟩,
    ⟨Rect.unit ![560] S16.size inb_S768_S16_560, shapeCast S16 (S 3) shapeCasts_S16_S16⟩,
    ⟨Rect.unit ![304] S16.size inb_S768_S16_304, shapeCast S16 (mulf (S 3) w) shapeCasts_S16_S16⟩,
    ⟨Rect.unit ![48] S16.size inb_S768_S16_48, shapeCast S16 (M 3) shapeCasts_S16_S16⟩,
    ⟨Rect.unit ![544] S16.size inb_S768_S16_544, shapeCast S16 (S 2) shapeCasts_S16_S16⟩,
    ⟨Rect.unit ![288] S16.size inb_S768_S16_288, shapeCast S16 (mulf (S 2) w) shapeCasts_S16_S16⟩,
    ⟨Rect.unit ![32] S16.size inb_S768_S16_32, shapeCast S16 (M 2) shapeCasts_S16_S16⟩,
    ⟨Rect.unit ![528] S16.size inb_S768_S16_528, shapeCast S16 (S 1) shapeCasts_S16_S16⟩,
    ⟨Rect.unit ![272] S16.size inb_S768_S16_272, shapeCast S16 (mulf (S 1) w) shapeCasts_S16_S16⟩,
    ⟨Rect.unit ![16] S16.size inb_S768_S16_16, shapeCast S16 (M 1) shapeCasts_S16_S16⟩,
    ⟨Rect.unit ![512] S16.size inb_S768_S16_512, shapeCast S16 (S 0) shapeCasts_S16_S16⟩,
    ⟨Rect.unit ![256] S16.size inb_S768_S16_256, shapeCast S16 (mulf (S 0) w) shapeCasts_S16_S16⟩,
    ⟨Rect.unit ![0] S16.size inb_S768_S16_0, shapeCast S16 (M 0) shapeCasts_S16_S16⟩]

/-- The forty-eight stores leave the block, whatever the buffer held. -/
theorem stage_writes (S M : Fin 16 → FVec F S16 .f32) (w : FVec F S16 .f32) (f : (sV).view.ty.Contents (Elt F)) :
    (sV).view.writes (Elt F) f (pieces S M w) = stage S M w := by
  refine funext fun y => ?_
  refine Eq.trans (b := (sV).view.read (Elt F) ((sV).view.writes (Elt F) f (pieces S M w)) y) rfl ?_
  refine (sV).view.read_writes_apply_of_pieces (Val := Elt F) f (stage S M w) _ ?_ y
    (View.cover_of_tiled (pieces S M w) S16.size rfl y)
  exact List.forall_mem_cons.2 ⟨stage_sum S M w 15 inb_S768_S16_752,
    List.forall_mem_cons.2 ⟨stage_mean S M w 15 inb_S768_S16_496,
    List.forall_mem_cons.2 ⟨stage_max S M w 15 inb_S768_S16_240,
    List.forall_mem_cons.2 ⟨stage_sum S M w 14 inb_S768_S16_736,
    List.forall_mem_cons.2 ⟨stage_mean S M w 14 inb_S768_S16_480,
    List.forall_mem_cons.2 ⟨stage_max S M w 14 inb_S768_S16_224,
    List.forall_mem_cons.2 ⟨stage_sum S M w 13 inb_S768_S16_720,
    List.forall_mem_cons.2 ⟨stage_mean S M w 13 inb_S768_S16_464,
    List.forall_mem_cons.2 ⟨stage_max S M w 13 inb_S768_S16_208,
    List.forall_mem_cons.2 ⟨stage_sum S M w 12 inb_S768_S16_704,
    List.forall_mem_cons.2 ⟨stage_mean S M w 12 inb_S768_S16_448,
    List.forall_mem_cons.2 ⟨stage_max S M w 12 inb_S768_S16_192,
    List.forall_mem_cons.2 ⟨stage_sum S M w 11 inb_S768_S16_688,
    List.forall_mem_cons.2 ⟨stage_mean S M w 11 inb_S768_S16_432,
    List.forall_mem_cons.2 ⟨stage_max S M w 11 inb_S768_S16_176,
    List.forall_mem_cons.2 ⟨stage_sum S M w 10 inb_S768_S16_672,
    List.forall_mem_cons.2 ⟨stage_mean S M w 10 inb_S768_S16_416,
    List.forall_mem_cons.2 ⟨stage_max S M w 10 inb_S768_S16_160,
    List.forall_mem_cons.2 ⟨stage_sum S M w 9 inb_S768_S16_656,
    List.forall_mem_cons.2 ⟨stage_mean S M w 9 inb_S768_S16_400,
    List.forall_mem_cons.2 ⟨stage_max S M w 9 inb_S768_S16_144,
    List.forall_mem_cons.2 ⟨stage_sum S M w 8 inb_S768_S16_640,
    List.forall_mem_cons.2 ⟨stage_mean S M w 8 inb_S768_S16_384,
    List.forall_mem_cons.2 ⟨stage_max S M w 8 inb_S768_S16_128,
    List.forall_mem_cons.2 ⟨stage_sum S M w 7 inb_S768_S16_624,
    List.forall_mem_cons.2 ⟨stage_mean S M w 7 inb_S768_S16_368,
    List.forall_mem_cons.2 ⟨stage_max S M w 7 inb_S768_S16_112,
    List.forall_mem_cons.2 ⟨stage_sum S M w 6 inb_S768_S16_608,
    List.forall_mem_cons.2 ⟨stage_mean S M w 6 inb_S768_S16_352,
    List.forall_mem_cons.2 ⟨stage_max S M w 6 inb_S768_S16_96,
    List.forall_mem_cons.2 ⟨stage_sum S M w 5 inb_S768_S16_592,
    List.forall_mem_cons.2 ⟨stage_mean S M w 5 inb_S768_S16_336,
    List.forall_mem_cons.2 ⟨stage_max S M w 5 inb_S768_S16_80,
    List.forall_mem_cons.2 ⟨stage_sum S M w 4 inb_S768_S16_576,
    List.forall_mem_cons.2 ⟨stage_mean S M w 4 inb_S768_S16_320,
    List.forall_mem_cons.2 ⟨stage_max S M w 4 inb_S768_S16_64,
    List.forall_mem_cons.2 ⟨stage_sum S M w 3 inb_S768_S16_560,
    List.forall_mem_cons.2 ⟨stage_mean S M w 3 inb_S768_S16_304,
    List.forall_mem_cons.2 ⟨stage_max S M w 3 inb_S768_S16_48,
    List.forall_mem_cons.2 ⟨stage_sum S M w 2 inb_S768_S16_544,
    List.forall_mem_cons.2 ⟨stage_mean S M w 2 inb_S768_S16_288,
    List.forall_mem_cons.2 ⟨stage_max S M w 2 inb_S768_S16_32,
    List.forall_mem_cons.2 ⟨stage_sum S M w 1 inb_S768_S16_528,
    List.forall_mem_cons.2 ⟨stage_mean S M w 1 inb_S768_S16_272,
    List.forall_mem_cons.2 ⟨stage_max S M w 1 inb_S768_S16_16,
    List.forall_mem_cons.2 ⟨stage_sum S M w 0 inb_S768_S16_512,
    List.forall_mem_cons.2 ⟨stage_mean S M w 0 inb_S768_S16_256,
    List.forall_mem_cons.2 ⟨stage_max S M w 0 inb_S768_S16_0, fun p hp => absurd hp List.not_mem_nil⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

end Cert.Proof.KernelIdeal

end
-- ==== Proof.KernelIdeal.Tile.lean ====
/-
  The tile's whole run: two segments, each a block of the output.
-/
module

public import proofs.«01_k».proof.Proof.KernelIdeal.Stage

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid0.Coords)

/-- The tile's two blocks of the output, as the program slices them. -/
abbrev oA : Memref sig .scVector .hbm S768 .f32 := (oV).slice (Rect.unit (s := S49152) (k0_off10 L) S768.size (k0_off10_inb L)) (fun _ => rfl)
abbrev oB : Memref sig .scVector .hbm S768 .f32 := (oV).slice (Rect.unit (s := S49152) (k0_off17 L) S768.size (k0_off17_inb L)) (fun _ => rfl)

/-- The factor a segment's sums are multiplied by for its means. -/
abbrev wt (a b : ℕ) : FVec F S16 .f32 := k0_pay359 (F := F) (Scalar.subi (wd b) (wd a))

/-- The block of the graph whose rows are those of the segment `[a, b)`. -/
abbrev seg (x : S2560000.Idx → F .f32) (a b : ℕ) : S768.Idx → F .f32 :=
  stage (sumAcc x a (b - a)) (maxAcc x a (b - a)) (wt (F := F) a b)

/-- The chunks together are the segment's rows. -/
theorem all_rows {a b : ℕ} (ha : a ≤ 10000) (hb : b ≤ 10000) : min (64 * (k0_t4_loop (wd a) (wd b)).trips) (b - a) = b - a := by
  rw [t4_trips ha hb]; unfold chunks; omega

theorem owed_insert {W W' : Waits sig (HIx 1)} {c : DmaSems sig S_} (h : ∀ p ∈ W', p ∈ W ∨ p.2 = none) :
    ∀ p ∈ insert (SemLoc.dma c.sem, (default : HIx 1)) W', p ∈ W ∨ p.2 = none := by
  intro p hp
  rcases Finset.mem_insert.mp hp with hp | hp
  · exact .inr (hp ▸ rfl)
  · exact h p hp

/-- A block just copied to the output is the output `G` there, when `G`'s words in the block are the block's. -/
theorem out_pts {off : Fin 1 → ℕ} {inb : ∀ a, off a + S768.size a ≤ S49152.size a} (w : S768.Idx → F .f32) (G : S49152.Idx → F .f32)
    (hG : ∀ j : S768.Idx, G ((Rect.unit (s := S49152) off S768.size inb).emb j) = w j)
    (f : Buf (Elt F) (((oV).slice (Rect.unit (s := S49152) off S768.size inb) (fun _ => rfl)).view.loc (thr d L))) :
    ((((oV).slice (Rect.unit (s := S49152) off S768.size inb) (fun _ => rfl)).view.loc (thr d L)
        ↦[((oV).slice (Rect.unit (s := S49152) off S768.size inb) (fun _ => rfl)).view.set]{fullShare}
        ((oV).slice (Rect.unit (s := S49152) off S768.size inb) (fun _ => rfl)).view.writes (Elt F) f [⟨Rect.whole S768, w⟩]) : sProp 𝕄)
      = (((oV).slice (Rect.unit (s := S49152) off S768.size inb) (fun _ => rfl)).view.loc (thr d L)
        ↦[((oV).slice (Rect.unit (s := S49152) off S768.size inb) (fun _ => rfl)).view.set]{fullShare}
        (G : Buf (Elt F) (((oV).slice (Rect.unit (s := S49152) off S768.size inb) (fun _ => rfl)).view.loc (thr d L)))) := by
  refine pointsTo_congr fun i hi => ?_
  obtain ⟨j, -, rfl⟩ := Finset.mem_map.mp hi
  have hm : j ∈ (Rect.whole S768).set := by
    rw [Rect.set_whole]; exact Finset.mem_univ _
  have h := ((oV).slice (Rect.unit (s := S49152) off S768.size inb) (fun _ => rfl)).view.read_writes_apply_of_pieces (Val := Elt F) f w
    [⟨Rect.whole S768, w⟩] (fun p hp => by
      rw [List.mem_singleton] at hp; subst hp
      intro y; exact congrArg w (Rect.emb_whole_apply _ y).symm) j ⟨_, List.mem_singleton_self _, hm⟩
  exact Eq.trans h (hG j).symm

section parts

variable (O : CellTallies nD τ sig (HIx 1)) (W : Waits sig (HIx 1)) (x : S2560000.Idx → F .f32) (q : PosShare TreeShare)
  {a b : ℕ} (ha : a ≤ 10000) (hb : b ≤ 10000)

include ha hb in
/-- The first segment's loops and the first two stores of its block. -/
theorem part18_wp (fb : Buf (Elt F) ((bV).view.loc (thr d L))) (fs : Buf (Elt F) ((sV).view.loc (thr d L))) (h4 : k0_chk4 (wd a) (wd b)) :
    iprop(Transfers.MayWaits (thr d L) (default : HIx 1) O
        ∗ ((xV).view.loc (thr d L) ↦{q} (x : Buf (Elt F) ((xV).view.loc (thr d L))))
        ∗ ((bV).view.loc (thr d L) ↦{fullShare} fb)
        ∗ ((sV).view.loc (thr d L) ↦{fullShare} fs)
        ∗ semVal (thr d L, SemLoc.dma cc0_scoped1.sem) 0
        ∗ owed (F := F) d L O W)
      ⊢ wp frame (wpE (defs₀ (F := F)) 𝒱₀ (thr d L) none) Set.univ
        (k0_part18 L xV (Memref.isWhole_whole _) giV (Memref.isWhole_whole _) oV (Memref.isWhole_whole _) gV (Memref.isWhole_whole _)
          bV (Memref.isWhole_whole _) sV (Memref.isWhole_whole _) cc0_scoped0 cc0_scoped1 cc0_scoped2 cc0_scoped3 cc0_scoped4 cc0_scoped5 cc0_scoped6 (wd a) (wd b) h4 (Scalar.subi (wd b) (wd a)) 63#32)
        fun r => iprop(∃ w : Vec F S16 .f32, ⌜r = ⟨sumAcc x a (b - a) 0, sumAcc x a (b - a) 1, sumAcc x a (b - a) 2, sumAcc x a (b - a) 3, sumAcc x a (b - a) 4, sumAcc x a (b - a) 5, sumAcc x a (b - a) 6, sumAcc x a (b - a) 7, sumAcc x a (b - a) 8, sumAcc x a (b - a) 9, sumAcc x a (b - a) 10, sumAcc x a (b - a) 11, sumAcc x a (b - a) 12, sumAcc x a (b - a) 13, sumAcc x a (b - a) 14, sumAcc x a (b - a) 15, maxAcc x a (b - a) 1, maxAcc x a (b - a) 2, maxAcc x a (b - a) 3, maxAcc x a (b - a) 4, maxAcc x a (b - a) 5, maxAcc x a (b - a) 6, maxAcc x a (b - a) 7, maxAcc x a (b - a) 8, maxAcc x a (b - a) 9, maxAcc x a (b - a) 10, maxAcc x a (b - a) 11, maxAcc x a (b - a) 12, maxAcc x a (b - a) 13, maxAcc x a (b - a) 14, maxAcc x a (b - a) 15, wt a b, w⟩⌝
          ∗ ((xV).view.loc (thr d L) ↦{q} (x : Buf (Elt F) ((xV).view.loc (thr d L))))
          ∗ (∃ f, (bV).view.loc (thr d L) ↦{fullShare} f)
          ∗ ((sV).view.loc (thr d L) ↦{fullShare} (sV).view.writes (Elt F) fs
            [⟨Rect.unit ![256] S16.size inb_S768_S16_256, k0_pay361 (Scalar.subi (wd b) (wd a)) (sumAcc x a (b - a) 0)⟩,
             ⟨Rect.unit ![0] S16.size inb_S768_S16_0, k0_pay360 (maxAcc x a (b - a) 0)⟩])
          ∗ semVal (thr d L, SemLoc.dma cc0_scoped1.sem) 0
          ∗ owed (F := F) d L O W) := by
  rw [k0_part18_eq_skeleton]; unfold k0_part18_skel
  iintro ⟨#Hmw, Hx, Hb, Hs, Hc, HO⟩
  sl_exec
  sl_for (chunkInv (F := F) d L (a := a) (b := b) x q cc0_scoped1 O W) $$ [Hx Hb Hc HO]
  case region =>
    intro k acc
    exact chunk_trip d L ha hb x _ _ _ _ _ _ _ q O W h4 _ _ k acc
  · unfold chunkInv
    isplitl []; · iexact Hmw
    isplitl [Hx]; · iexact Hx
    isplitl [Hb]; · iexists fb; iexact Hb
    isplitl [Hc]; · iexact Hc
    isplitl [HO]; · iexact HO
    ipureintro
    rw [show min (64 * 0) (b - a) = 0 by omega]
    rfl
  iintro %acc HI
  unfold chunkInv
  icases HI with ⟨-, Hx, ⟨%fb', Hb⟩, Hc, HO, %hacc⟩
  replace hacc := hacc.trans (congrArg (accs x a) (all_rows ha hb))
  subst hacc
  unfold accs tup
  sl_exec
  sl_step
  iexists _
  isplitr
  · ipureintro; rfl
  isplitl [Hx]; · iexact Hx
  isplitl [Hb]; · iexists fb'; iexact Hb
  isplitl [Hs]; · iexact Hs
  isplitl [Hc]; · iexact Hc
  iexact HO

include ha hb in
/-- The last store of the first segment's block, the block's copy to the output, and the second segment's loops. -/
theorem part23_wp (fb : Buf (Elt F) ((bV).view.loc (thr d L))) (fs : Buf (Elt F) ((sV).view.loc (thr d L))) (h5 : k0_chk5 (wd a) (wd b))
    (fa : Buf (Elt F) ((oA L).view.loc (thr d L))) (v6 v16 : BitVec 32) (v44 v207 : FVec F S16 .f32) (g : S768.Idx → F .f32)
    (G : S49152.Idx → F .f32)
    (hG : ∀ j : S768.Idx, G ((Rect.unit (s := S49152) (k0_off10 L) S768.size (k0_off10_inb L)).emb j) = g j)
    (hg : (sV).view.writes (Elt F) fs [⟨Rect.unit ![752] S16.size inb_S768_S16_752, k0_pay408 v44⟩] = g) :
    iprop(Transfers.MayWaits (thr d L) (default : HIx 1) O
        ∗ ((xV).view.loc (thr d L) ↦{q} (x : Buf (Elt F) ((xV).view.loc (thr d L))))
        ∗ ((bV).view.loc (thr d L) ↦{fullShare} fb)
        ∗ ((sV).view.loc (thr d L) ↦{fullShare} fs)
        ∗ ((oA L).view.loc (thr d L) ↦[(oA L).view.set]{fullShare} fa)
        ∗ semVal (thr d L, SemLoc.dma cc0_scoped3.sem) 0
        ∗ semVal (thr d L, SemLoc.dma cc0_scoped4.sem) 0
        ∗ owed (F := F) d L O W)
      ⊢ wp frame (wpE (defs₀ (F := F)) 𝒱₀ (thr d L) none) Set.univ
        (k0_part23 L xV (Memref.isWhole_whole _) giV (Memref.isWhole_whole _) oV (Memref.isWhole_whole _) gV (Memref.isWhole_whole _)
          bV (Memref.isWhole_whole _) sV (Memref.isWhole_whole _) cc0_scoped0 cc0_scoped1 cc0_scoped2 cc0_scoped3 cc0_scoped4 cc0_scoped5 cc0_scoped6 v6 (wd a) (wd b) h5 v16 v44 v207)
        fun r => iprop(⌜r = ⟨Scalar.addi v6 1#32, sumAcc x a (b - a) 0, sumAcc x a (b - a) 1, sumAcc x a (b - a) 2, sumAcc x a (b - a) 3, sumAcc x a (b - a) 4, sumAcc x a (b - a) 5, sumAcc x a (b - a) 6, sumAcc x a (b - a) 7, sumAcc x a (b - a) 8, sumAcc x a (b - a) 9, sumAcc x a (b - a) 10, sumAcc x a (b - a) 11, sumAcc x a (b - a) 12, sumAcc x a (b - a) 13, sumAcc x a (b - a) 14, sumAcc x a (b - a) 15, maxAcc x a (b - a) 0, maxAcc x a (b - a) 1, maxAcc x a (b - a) 2, maxAcc x a (b - a) 3, maxAcc x a (b - a) 4, maxAcc x a (b - a) 5, maxAcc x a (b - a) 6, maxAcc x a (b - a) 7, maxAcc x a (b - a) 8, maxAcc x a (b - a) 9, maxAcc x a (b - a) 10, maxAcc x a (b - a) 11, maxAcc x a (b - a) 12, maxAcc x a (b - a) 13, maxAcc x a (b - a) 14, maxAcc x a (b - a) 15, k0_pay447 (F := F) (wd a) (wd b)⟩⌝
          ∗ ((xV).view.loc (thr d L) ↦{q} (x : Buf (Elt F) ((xV).view.loc (thr d L))))
          ∗ (∃ f, (bV).view.loc (thr d L) ↦{fullShare} f)
          ∗ (∃ f, (sV).view.loc (thr d L) ↦{fullShare} f)
          ∗ ((oA L).view.loc (thr d L) ↦[(oA L).view.set]{fullShare} (G : Buf (Elt F) ((oA L).view.loc (thr d L))))
          ∗ semVal (thr d L, SemLoc.dma cc0_scoped3.sem) 0
          ∗ semVal (thr d L, SemLoc.dma cc0_scoped4.sem) 0
          ∗ owed (F := F) d L O W) := by
  rw [k0_part23_eq_skeleton]; unfold k0_part23_skel
  iintro ⟨#Hmw, Hx, Hb, Hs, HA, H3, Hc, %W', %hW', HO⟩
  sl_exec (disch := exact View.amount_pos _ _ (show 0 < S768.numel by decide))
  sl_for (chunkInv (F := F) d L (a := a) (b := b) x q cc0_scoped4 O W) $$ [Hx Hb Hc HO]
  case region =>
    intro k acc
    exact chunk_trip d L ha hb x cc0_scoped0 cc0_scoped4 cc0_scoped5 cc0_scoped3 cc0_scoped1 cc0_scoped2 cc0_scoped6 q O W h5 0#32 0#32 k acc
  · unfold chunkInv
    isplitl []; · iexact Hmw
    isplitl [Hx]; · iexact Hx
    isplitl [Hb]; · iexists fb; iexact Hb
    isplitl [Hc]; · iexact Hc
    isplitl [HO]; · (iexists (insert (SemLoc.dma cc0_scoped3.sem, (default : HIx 1)) W'); isplitr; (ipureintro; exact owed_insert hW'); iexact HO)
    ipureintro
    rw [show min (64 * 0) (b - a) = 0 by omega]
    rfl
  iintro %acc HI
  unfold chunkInv
  icases HI with ⟨-, Hx, ⟨%fb', Hb⟩, Hc, HO, %hacc⟩
  replace hacc := hacc.trans (congrArg (accs x a) (all_rows ha hb))
  subst hacc
  unfold accs tup
  sl_exec
  sl_step
  isplitr
  · ipureintro; rfl
  isplitl [Hx]; · iexact Hx
  isplitl [Hb]; · iexists fb'; iexact Hb
  isplitl [Hs]; · iexists _; iexact Hs
  isplitl [HA]
  · ihave HA' := (Entails.of_eq (out_pts d L (part23_wp.sl.dma1 d L fs v44) G (fun j => (hG j).trans (congrFun hg j).symm) _)) $$ HA
    iexact HA'
  isplitl [H3]; · iexact H3
  isplitl [Hc]; · iexact Hc
  iexact HO

end parts

/-- The tile's run: the searches, both segments' sums, and each one's block written out. The output's words in the two
    blocks are those of any `G` that holds the two graphs' blocks there. -/
theorem body_wp (O : CellTallies nD τ sig (HIx 1)) (W : Waits sig (HIx 1)) (x : S2560000.Idx → F .f32) (q : PosShare TreeShare)
    (gi : S10000.Idx → BitVec 32) (q' : PosShare TreeShare) (fg : Buf (Elt F) ((gV).view.loc (thr d L)))
    (fb : Buf (Elt F) ((bV).view.loc (thr d L))) (fs : Buf (Elt F) ((sV).view.loc (thr d L)))
    (fa : Buf (Elt F) ((oA L).view.loc (thr d L))) (fc : Buf (Elt F) ((oB L).view.loc (thr d L)))
    (G : S49152.Idx → F .f32)
    (hA : ∀ j : S768.Idx, G ((Rect.unit (s := S49152) (k0_off10 L) S768.size (k0_off10_inb L)).emb j)
      = seg x (bnd gi (gid L)) (bnd gi (gid L + 1)) j)
    (hB : ∀ j : S768.Idx, G ((Rect.unit (s := S49152) (k0_off17 L) S768.size (k0_off17_inb L)).emb j)
      = seg x (bnd gi (gid L + 1)) (bnd gi (gid L + 2)) j) :
    iprop(Transfers.MayWaits (thr d L) (default : HIx 1) O
        ∗ ((giV).view.loc (thr d L) ↦{q'} (gi : Buf (Elt F) ((giV).view.loc (thr d L))))
        ∗ ((xV).view.loc (thr d L) ↦{q} (x : Buf (Elt F) ((xV).view.loc (thr d L))))
        ∗ ((gV).view.loc (thr d L) ↦{fullShare} fg)
        ∗ ((bV).view.loc (thr d L) ↦{fullShare} fb)
        ∗ ((sV).view.loc (thr d L) ↦{fullShare} fs)
        ∗ ((oA L).view.loc (thr d L) ↦[(oA L).view.set]{fullShare} fa)
        ∗ ((oB L).view.loc (thr d L) ↦[(oB L).view.set]{fullShare} fc)
        ∗ semVal (thr d L, SemLoc.dma cc0_scoped0.sem) 0
        ∗ semVal (thr d L, SemLoc.dma cc0_scoped1.sem) 0
        ∗ semVal (thr d L, SemLoc.dma cc0_scoped3.sem) 0
        ∗ semVal (thr d L, SemLoc.dma cc0_scoped4.sem) 0
        ∗ semVal (thr d L, SemLoc.dma cc0_scoped6.sem) 0
        ∗ owed (F := F) d L O W)
      ⊢ wp frame (wpE (defs₀ (F := F)) 𝒱₀ (thr d L) none) Set.univ
        (cc0__pool_body L xV (Memref.isWhole_whole _) giV (Memref.isWhole_whole _) oV (Memref.isWhole_whole _) gV (Memref.isWhole_whole _)
          bV (Memref.isWhole_whole _) sV (Memref.isWhole_whole _) cc0_scoped0 cc0_scoped1 cc0_scoped2 cc0_scoped3 cc0_scoped4 cc0_scoped5 cc0_scoped6)
        fun _ => iprop(((giV).view.loc (thr d L) ↦{q'} (gi : Buf (Elt F) ((giV).view.loc (thr d L))))
        ∗ ((xV).view.loc (thr d L) ↦{q} (x : Buf (Elt F) ((xV).view.loc (thr d L))))
        ∗ (∃ f, (gV).view.loc (thr d L) ↦{fullShare} f)
        ∗ (∃ f, (bV).view.loc (thr d L) ↦{fullShare} f)
        ∗ (∃ f, (sV).view.loc (thr d L) ↦{fullShare} f)
        ∗ ((oA L).view.loc (thr d L) ↦[(oA L).view.set]{fullShare} (G : Buf (Elt F) ((oA L).view.loc (thr d L))))
        ∗ ((oB L).view.loc (thr d L) ↦[(oB L).view.set]{fullShare} (G : Buf (Elt F) ((oB L).view.loc (thr d L))))
        ∗ semVal (thr d L, SemLoc.dma cc0_scoped0.sem) 0
        ∗ semVal (thr d L, SemLoc.dma cc0_scoped1.sem) 0
        ∗ semVal (thr d L, SemLoc.dma cc0_scoped3.sem) 0
        ∗ semVal (thr d L, SemLoc.dma cc0_scoped4.sem) 0
        ∗ semVal (thr d L, SemLoc.dma cc0_scoped6.sem) 0
        ∗ owed (F := F) d L O W) := by
  have ha : bnd gi (gid L) ≤ 10000 := bnd_le _ (by have := gid_le L; omega)
  have hb : bnd gi (gid L + 1) ≤ 10000 := bnd_le _ (by have := gid_le L; omega)
  have hc : bnd gi (gid L + 2) ≤ 10000 := bnd_le _ (by have := gid_le L; omega)
  rw [cc0__pool_body_eq_skeleton]; unfold cc0__pool_body_skel
  iintro ⟨#Hmw, Hi, Hx, Hg, Hb, Hs, HA, HB, H0, H1, H3, H4, H6, HO⟩
  iapply (wp_seq d L (part17_wp d L O W gi q' fg (chk4_of_le ha hb) (chk5_of_le hb hc)))
  isplitl [Hi Hg H0 HO]
  · isplitl []; · iexact Hmw
    isplitl [Hi]; · iexact Hi
    isplitl [Hg]; · iexact Hg
    isplitl [H0]; · iexact H0
    iexact HO
  iintro %r ⟨%hr, Hi, Hg, H0, HO⟩
  subst hr
  iapply (wp_seq d L (part18_wp d L O W x q ha hb fb fs (chk4_of_le ha hb)))
  isplitl [Hx Hb Hs H1 HO]
  · isplitl []; · iexact Hmw
    isplitl [Hx]; · iexact Hx
    isplitl [Hb]; · iexact Hb
    isplitl [Hs]; · iexact Hs
    isplitl [H1]; · iexact H1
    iexact HO
  iintro %r ⟨%w, %hr, Hx, ⟨%fb1, Hb⟩, Hs, H1, HO⟩
  subst hr
  rw [k0_part19_eq_skeleton]; unfold k0_part19_skel
  rw [k0_part20_eq_skeleton]; unfold k0_part20_skel
  rw [k0_part21_eq_skeleton]; unfold k0_part21_skel
  rw [k0_part22_eq_skeleton]; unfold k0_part22_skel
  generalize hp : @k0_part23 F _ = P23
  sl_exec
  subst hp
  iapply (wp_seq d L (part23_wp d L O W x q hb hc fb1 ((sV).view.writes (Elt F) fs (pieces (sumAcc x (bnd gi (gid L)) ((bnd gi (gid L + 1)) - (bnd gi (gid L)))) (maxAcc x (bnd gi (gid L)) ((bnd gi (gid L + 1)) - (bnd gi (gid L)))) (wt (bnd gi (gid L)) (bnd gi (gid L + 1)))).tail)
    (chk5_of_le hb hc) fa _ _ _ _ (seg x (bnd gi (gid L)) (bnd gi (gid L + 1))) G hA (stage_writes (sumAcc x (bnd gi (gid L)) ((bnd gi (gid L + 1)) - (bnd gi (gid L)))) (maxAcc x (bnd gi (gid L)) ((bnd gi (gid L + 1)) - (bnd gi (gid L)))) (wt (bnd gi (gid L)) (bnd gi (gid L + 1))) fs)))
  isplitl [Hx Hb Hs HA H3 H4 HO]
  · isplitl []; · iexact Hmw
    isplitl [Hx]; · iexact Hx
    isplitl [Hb]; · iexact Hb
    isplitl [Hs]; · iexact Hs
    isplitl [HA]; · iexact HA
    isplitl [H3]; · iexact H3
    isplitl [H4]; · iexact H4
    iexact HO
  iintro %r ⟨%hr, Hx, ⟨%fb2, Hb⟩, ⟨%fs2, Hs⟩, HA, H3, H4, %W', %hW', HO⟩
  subst hr
  rw [k0_part24_eq_skeleton]; unfold k0_part24_skel
  rw [k0_part25_eq_skeleton]; unfold k0_part25_skel
  rw [k0_part26_eq_skeleton]; unfold k0_part26_skel
  rw [k0_part27_eq_skeleton]; unfold k0_part27_skel
  sl_exec (disch := exact View.amount_pos _ _ (show 0 < S768.numel by decide))
  sl_step
  isplitl [Hi]; · iexact Hi
  isplitl [Hx]; · iexact Hx
  isplitl [Hg]; · iexists _; iexact Hg
  isplitl [Hb]; · iexists _; iexact Hb
  isplitl [Hs]; · iexists _; iexact Hs
  isplitl [HA]; · iexact HA
  isplitl [HB]
  · ihave HB' := (Entails.of_eq (out_pts d L (body_wp.sl.dma96 d L x gi fs2) G (fun j => (hB j).trans
      (congrFun (stage_writes (sumAcc x (bnd gi (gid L + 1)) ((bnd gi (gid L + 2)) - (bnd gi (gid L + 1)))) (maxAcc x (bnd gi (gid L + 1)) ((bnd gi (gid L + 2)) - (bnd gi (gid L + 1)))) (wt (bnd gi (gid L + 1)) (bnd gi (gid L + 2))) fs2) j).symm) fc)) $$ HB
    iexact HB'
  isplitl [H0]; · iexact H0
  isplitl [H1]; · iexact H1
  isplitl [H3]; · iexact H3
  isplitl [H4]; · iexact H4
  isplitl [H6]; · iexact H6
  iexists (insert (SemLoc.dma cc0_scoped6.sem, (default : HIx 1)) W')
  isplitr
  · ipureintro; exact owed_insert hW'
  iexact HO

end Cert.Proof.KernelIdeal

end
-- ==== Proof.KernelIdeal.Launch.lean ====
/-
  The launch: the operands dealt out to the thirty-two tiles, the program's run, and what its result holds.
-/
module

public import proofs.«01_k».proof.Proof.KernelIdeal.Tile

@[expose] public section

noncomputable section

namespace Cert.Proof.KernelIdeal

open Cert.KernelIdeal Cert.KernelIdeal.Gen Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}
local notation "𝕄" => MT nD τ sig (HIx 1) (Elt F) ℕ UU ℕ

/-! ## The arrays of a device and what they hold -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev giLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The rows, flat, and the graph numbers, as the tiles read them. -/
abbrev flatX (d : Dev nD) : S2560000.Idx → F .f32 := shapeCast S2560000 (m (a0Loc d) : S10000x256.Idx → F .f32) shapeCasts_S10000x256_S2560000
abbrev graphs (d : Dev nD) : S10000.Idx → BitVec 32 := m (giLoc d)

variable [FloatOps F]

/-- The output the tiles write: word `i` lies in the block of graph `i / 768`. -/
def outFn (x : S2560000.Idx → F .f32) (gi : S10000.Idx → BitVec 32) : S49152.Idx → F .f32 := fun i =>
  seg x (bnd gi ((i 0).1 / 768)) (bnd gi ((i 0).1 / 768 + 1)) (fun | 0 => ⟨(i 0).1 % 768, Nat.mod_lt _ (by decide)⟩)

abbrev outV (d : Dev nD) : S49152.Idx → F .f32 := outFn (flatX m d) (graphs m d)

omit [FloatOps F] in
theorem emb_val (off : Fin 1 → ℕ) (inb : ∀ a, off a + S768.size a ≤ S49152.size a) (j : S768.Idx) :
    ((Rect.unit (s := S49152) off S768.size inb).emb j 0).1 = off 0 + (j 0).1 := by
  rw [Rect.emb_apply]; show off 0 + 1 * (j 0).1 = _; omega

/-- On a block of graph `g` the output is that graph's. -/
theorem outFn_block (x : S2560000.Idx → F .f32) (gi : S10000.Idx → BitVec 32) (off : Fin 1 → ℕ)
    (inb : ∀ a, off a + S768.size a ≤ S49152.size a) (g : ℕ) (hg : off 0 = 768 * g) (j : S768.Idx) :
    outFn x gi ((Rect.unit (s := S49152) off S768.size inb).emb j) = seg x (bnd gi g) (bnd gi (g + 1)) j := by
  have hj : (j 0).1 < 768 := (j 0).2
  have hv := emb_val off inb j
  have hd : ((Rect.unit (s := S49152) off S768.size inb).emb j 0).1 / 768 = g := by rw [hv, hg]; omega
  have hm : ((Rect.unit (s := S49152) off S768.size inb).emb j 0).1 % 768 = (j 0).1 := by rw [hv, hg]; omega
  unfold outFn
  rw [hd]
  refine congrArg _ (funext fun a => ?_)
  match a with
  | 0 => exact Fin.ext hm

/-! ## How the output is dealt out -/

/-- SparseCore `c`'s words of the output, and those of its tile `j`: two graphs' blocks to a tile, the tiles of the two
    SparseCores by turns. -/
def coreSet (c : ℕ) : Finset S49152.Idx := Finset.univ.filter fun i => (i 0).1 / 1536 % 2 = c
def tileSet (c j : ℕ) : Finset S49152.Idx := Finset.univ.filter fun i => (i 0).1 / 1536 = 2 * j + c

omit [FloatOps F] in
theorem mem_coreSet {c : ℕ} {i : S49152.Idx} : i ∈ coreSet c ↔ (i 0).1 / 1536 % 2 = c := by simp [coreSet]
omit [FloatOps F] in
theorem mem_tileSet {c j : ℕ} {i : S49152.Idx} : i ∈ tileSet c j ↔ (i 0).1 / 1536 = 2 * j + c := by simp [tileSet]

omit [FloatOps F] in
theorem cores_disjoint : ∀ c ∈ (Finset.univ : Finset (Fin 2)), ∀ c' ∈ (Finset.univ : Finset (Fin 2)), c ≠ c' → Disjoint (coreSet c.1) (coreSet c'.1) :=
  fun c _ c' _ h => Finset.disjoint_left.mpr fun i h1 h2 => h (Fin.ext ((mem_coreSet.mp h1).symm.trans (mem_coreSet.mp h2)))

omit [FloatOps F] in
theorem cores_cover : (Finset.univ : Finset (Fin 2)).biUnion (fun c => coreSet c.1) = Finset.univ :=
  Finset.eq_univ_iff_forall.mpr fun i => Finset.mem_biUnion.mpr
    ⟨⟨(i 0).1 / 1536 % 2, Nat.mod_lt _ (by decide)⟩, Finset.mem_univ _, mem_coreSet.mpr rfl⟩

omit [FloatOps F] in
theorem tiles_disjoint (c : ℕ) : ∀ j ∈ (Finset.univ : Finset (Fin 16)), ∀ j' ∈ (Finset.univ : Finset (Fin 16)), j ≠ j' → Disjoint (tileSet c j.1) (tileSet c j'.1) :=
  fun j _ j' _ h => Finset.disjoint_left.mpr fun i h1 h2 => h (Fin.ext (by
    have := mem_tileSet.mp h1; have := mem_tileSet.mp h2; omega))

omit [FloatOps F] in
theorem tiles_cover (c : Fin 2) : (Finset.univ : Finset (Fin 16)).biUnion (fun j => tileSet c.1 j.1) = coreSet c.1 := by
  ext i
  have hi : (i 0).1 < 49152 := (i 0).2
  have hc := c.2
  simp only [Finset.mem_biUnion, Finset.mem_univ, true_and, mem_tileSet, mem_coreSet]
  constructor
  · rintro ⟨j, hj⟩; omega
  · intro h
    exact ⟨⟨(i 0).1 / 1536 / 2, by omega⟩, by show _ = 2 * ((i 0).1 / 1536 / 2) + c.1; omega⟩

omit [FloatOps F] in
theorem out_cores (d : Dev nD) (f : Buf (Elt F) (oLoc d)) :
    (oLoc d ↦{fullShare} f : sProp 𝕄) = bigSep Finset.univ fun c : Fin 2 => oLoc d ↦[coreSet c.1]{fullShare} f := by
  rw [← pointsTo_biUnion Finset.univ (ℓ := oLoc d) (fun c : Fin 2 => coreSet c.1) cores_disjoint, cores_cover]; try rfl
omit [FloatOps F] in
theorem out_tiles (d : Dev nD) (c : Fin 2) (f : Buf (Elt F) (oLoc d)) :
    (oLoc d ↦[coreSet c.1]{fullShare} f : sProp 𝕄) = bigSep Finset.univ fun j : Fin 16 => oLoc d ↦[tileSet c.1 j.1]{fullShare} f := by
  rw [← pointsTo_biUnion Finset.univ (ℓ := oLoc d) (fun j : Fin 16 => tileSet c.1 j.1) (tiles_disjoint c.1), tiles_cover]

/-! ## The read shares of the two operands -/

abbrev coreShare (c : Fin 2) : PosShare TreeShare := ShareLeaves.leaf 1 fullShare c
abbrev tileShare (c : Fin 2) (j : Fin 16) : PosShare TreeShare := ShareLeaves.leaf 4 (coreShare c) j

omit [FloatOps F] in
theorem read_cores {ℓ : Loc nD τ sig} (f : Buf (Elt F) ℓ) :
    (ℓ ↦{fullShare} f : sProp 𝕄) = bigSep Finset.univ fun c : Fin 2 => ℓ ↦{coreShare c} f :=
  ShareLeaves.pointsTo_leaves Finset.univ f 1 fullShare
omit [FloatOps F] in
theorem read_tiles {ℓ : Loc nD τ sig} (c : Fin 2) (f : Buf (Elt F) ℓ) :
    (ℓ ↦{coreShare c} f : sProp 𝕄) = bigSep Finset.univ fun j : Fin 16 => ℓ ↦{tileShare c j} f :=
  ShareLeaves.pointsTo_leaves Finset.univ f 4 (coreShare c)

/-! ## What the call hands out and takes back -/

theorem nCore_zero : (K (F := F)).nCore 0 = 2 := rfl
theorem nSub_zero : (K (F := F)).nSub 0 = 16 := rfl

/-- A SparseCore's part of the operands, the output at `f`; a tile's. -/
abbrev corePts (d : Dev nD) (c : Fin 2) (f : Buf (Elt F) (oLoc d)) : sProp 𝕄 :=
  iprop((giLoc d ↦{coreShare c} m (giLoc d)) ∗ (xLoc d ↦{coreShare c} (flatX m d : Buf (Elt F) (xLoc d))) ∗ oLoc d ↦[coreSet c.1]{fullShare} f)
abbrev tilePts (d : Dev nD) (c : Fin 2) (j : Fin 16) (f : Buf (Elt F) (oLoc d)) : sProp 𝕄 :=
  iprop((giLoc d ↦{tileShare c j} m (giLoc d)) ∗ (xLoc d ↦{tileShare c j} (flatX m d : Buf (Elt F) (xLoc d))) ∗ oLoc d ↦[tileSet c.1 j.1]{fullShare} f)

omit [FloatOps F] in
theorem core_tiles (d : Dev nD) (c : Fin 2) (f : Buf (Elt F) (oLoc d)) :
    (corePts m d c f : sProp 𝕄) = bigSep Finset.univ fun j : Fin 16 => tilePts m d c j f := by
  unfold corePts tilePts
  rw [bigSep_sep', bigSep_sep', read_tiles, read_tiles, out_tiles]

omit [FloatOps F] in
theorem all_cores (d : Dev nD) (f : Buf (Elt F) (oLoc d)) :
    (iprop((giLoc d ↦{fullShare} m (giLoc d)) ∗ (xLoc d ↦{fullShare} (flatX m d : Buf (Elt F) (xLoc d))) ∗ oLoc d ↦{fullShare} f) : sProp 𝕄)
      = bigSep Finset.univ fun c : Fin 2 => corePts m d c f := by
  unfold corePts
  rw [bigSep_sep', bigSep_sep', read_cores, read_cores, out_cores]

/-- The call takes the graph numbers, the rows and the output, and brings them back with the output written. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (outV m d : Buf (Elt F) (oLoc d))
  go := fun q d c i => match q with | 0 => tilePts m d (Fin.cast nCore_zero c) (Fin.cast nSub_zero i) (m (oLoc d))
  td := fun q d c i => match q with | 0 => tilePts m d (Fin.cast nCore_zero c) (Fin.cast nSub_zero i) (outV m d : Buf (Elt F) (oLoc d))
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (outV m d : Buf (Elt F) (oLoc d))))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (outV m d : Buf (Elt F) (oLoc d))))

theorem vecSplit : (K (F := F)).VecSplit' (P m) 0 := by
  intro d c
  have key : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show corePts m d (Fin.cast nCore_zero c) (m (oLoc d)) ⊢ |={Set.univ}=> iprop(
    (bigSep Finset.univ fun i : Fin ((K (F := F)).nSub 0) => tilePts m d (Fin.cast nCore_zero c) (Fin.cast nSub_zero i) (m (oLoc d)))
    ∗ ((bigSep Finset.univ fun i : Fin ((K (F := F)).nSub 0) => tilePts m d (Fin.cast nCore_zero c) (Fin.cast nSub_zero i) (outV m d : Buf (Elt F) (oLoc d)))
      -∗ corePts m d (Fin.cast nCore_zero c) (outV m d : Buf (Elt F) (oLoc d))))
  rw [key (fun j => tilePts m d (Fin.cast nCore_zero c) j (m (oLoc d))), key (fun j => tilePts m d (Fin.cast nCore_zero c) j (outV m d : Buf (Elt F) (oLoc d))),
    ← core_tiles, ← core_tiles]
  iintro H; imodintro
  isplitl [H]; · iexact H
  iintro H; iexact H

/-! ## A tile's part -/

section Tile

variable (d : Dev nD) (L : grid0.Coords)

abbrev cL : Fin 2 := ⟨(L 0).1, (L 0).2⟩
abbrev jL : Fin 16 := ⟨(L 1).1, (L 1).2⟩

omit [FloatOps F] in
theorem mem_oA {i : S49152.Idx} : i ∈ (oA L).view.set ↔ 768 * gid L ≤ (i 0).1 ∧ (i 0).1 < 768 * gid L + 768 := by
  have e : (oA L).view.set = (Rect.unit (s := S49152) (k0_off10 L) S768.size (k0_off10_inb L)).set := by
    show ((View.whole (main_v1_scv : Ref sig .scVector)).slice _).set = _
    rw [View.set_slice]; exact Finset.map_refl
  have h0 : k0_off10 L 0 = 768 * gid L := by rw [k0_off10_eq]; show 3072 * (L 1).1 + 1536 * (L 0).1 = _; unfold gid; omega
  rw [e, Rect.mem_set_unit]
  constructor
  · intro h; have h' := h 0; rw [h0] at h'; exact h'
  · intro h a; match a with
    | 0 => rw [h0]; exact h

omit [FloatOps F] in
theorem mem_oB {i : S49152.Idx} : i ∈ (oB L).view.set ↔ 768 * gid L + 768 ≤ (i 0).1 ∧ (i 0).1 < 768 * gid L + 768 + 768 := by
  have e : (oB L).view.set = (Rect.unit (s := S49152) (k0_off17 L) S768.size (k0_off17_inb L)).set := by
    show ((View.whole (main_v1_scv : Ref sig .scVector)).slice _).set = _
    rw [View.set_slice]; exact Finset.map_refl
  have h0 : k0_off17 L 0 = 768 * gid L + 768 := by rw [k0_off17_eq]; show 3072 * (L 1).1 + 1536 * (L 0).1 + 768 = _; unfold gid; omega
  rw [e, Rect.mem_set_unit]
  constructor
  · intro h; have h' := h 0; rw [h0] at h'; exact h'
  · intro h a; match a with
    | 0 => rw [h0]; exact h

omit [FloatOps F] in
/-- A tile's words of the output are its two blocks. -/
theorem tile_blocks (f : Buf (Elt F) (oLoc d)) :
    (oLoc d ↦[tileSet (L 0).1 (L 1).1]{fullShare} f : sProp 𝕄)
      = iprop(((oA L).view.loc (thr d L) ↦[(oA L).view.set]{fullShare} f) ∗ ((oB L).view.loc (thr d L) ↦[(oB L).view.set]{fullShare} f)) := by
  have hdis : Disjoint (oA L).view.set (oB L).view.set :=
    Finset.disjoint_left.mpr fun i h1 h2 => by have := (mem_oA L).mp h1; have := (mem_oB L).mp h2; omega
  have hset : tileSet (L 0).1 (L 1).1 = (oA L).view.set ∪ (oB L).view.set := by
    ext i
    have hA := mem_oA L (i := i)
    have hB := mem_oB L (i := i)
    refine mem_tileSet.trans (Iff.trans ?_ Finset.mem_union.symm)
    rw [hA, hB]; unfold gid; omega
  rw [hset]
  have h : (oLoc d ↦[(oA L).view.set ∪ (oB L).view.set]{fullShare} f : sProp 𝕄)
      ⊣⊢ iprop((oLoc d ↦[(oA L).view.set]{fullShare} f) ∗ (oLoc d ↦[(oB L).view.set]{fullShare} f)) := pointsTo_union hdis
  exact Entails.antisymm h.1 h.2

/-- The tile's transfers' counters, as cells. -/
abbrev cell (s : DmaSems sig S_) : GSem nD τ sig := (thr d L, SemLoc.dma s.sem)

omit [FloatOps F] in
theorem cell_own (s : DmaSems sig S_) (h : (SemLoc.dma s.sem : SemLoc sig).isScoped .scVector = true) : cell d L s ∈ ownCells (thr d L) :=
  mem_ownCells.mpr ⟨rfl, h⟩
omit [FloatOps F] in
theorem cell_ne {s s' : DmaSems sig S_} (h : (SemLoc.dma s.sem : SemLoc sig) ≠ SemLoc.dma s'.sem) : cell d L s ≠ cell d L s' :=
  fun e => h (Prod.ext_iff.mp e).2

omit [FloatOps F] in
/-- The five counters the tile's copies use are among its own. -/
theorem own_cells :
    (ownSems0 (thr d L) : sProp 𝕄)
      = iprop(semVal (cell d L cc0_scoped0) 0 ∗ semVal (cell d L cc0_scoped1) 0 ∗ semVal (cell d L cc0_scoped3) 0
          ∗ semVal (cell d L cc0_scoped4) 0 ∗ semVal (cell d L cc0_scoped6) 0
          ∗ bigSep ((((((ownCells (thr d L)).erase (cell d L cc0_scoped0)).erase (cell d L cc0_scoped1)).erase (cell d L cc0_scoped3)).erase
              (cell d L cc0_scoped4)).erase (cell d L cc0_scoped6)) fun g => semVal g 0) := by
  unfold SparseCore.Cfg.ownSems0
  have m0 := cell_own d L cc0_scoped0 (by decide)
  have m1 := Finset.mem_erase.mpr ⟨cell_ne d L (s := cc0_scoped1) (s' := cc0_scoped0) (by decide), cell_own d L cc0_scoped1 (by decide)⟩
  have m3 := Finset.mem_erase.mpr ⟨cell_ne d L (s := cc0_scoped3) (s' := cc0_scoped1) (by decide),
    Finset.mem_erase.mpr ⟨cell_ne d L (s := cc0_scoped3) (s' := cc0_scoped0) (by decide), cell_own d L cc0_scoped3 (by decide)⟩⟩
  have m4 := Finset.mem_erase.mpr ⟨cell_ne d L (s := cc0_scoped4) (s' := cc0_scoped3) (by decide),
    Finset.mem_erase.mpr ⟨cell_ne d L (s := cc0_scoped4) (s' := cc0_scoped1) (by decide),
    Finset.mem_erase.mpr ⟨cell_ne d L (s := cc0_scoped4) (s' := cc0_scoped0) (by decide), cell_own d L cc0_scoped4 (by decide)⟩⟩⟩
  have m6 := Finset.mem_erase.mpr ⟨cell_ne d L (s := cc0_scoped6) (s' := cc0_scoped4) (by decide),
    Finset.mem_erase.mpr ⟨cell_ne d L (s := cc0_scoped6) (s' := cc0_scoped3) (by decide),
    Finset.mem_erase.mpr ⟨cell_ne d L (s := cc0_scoped6) (s' := cc0_scoped1) (by decide),
    Finset.mem_erase.mpr ⟨cell_ne d L (s := cc0_scoped6) (s' := cc0_scoped0) (by decide), cell_own d L cc0_scoped6 (by decide)⟩⟩⟩⟩
  rw [SparseCore.bigSep_erase' m0, SparseCore.bigSep_erase' m1, SparseCore.bigSep_erase' m3, SparseCore.bigSep_erase' m4, SparseCore.bigSep_erase' m6]

abbrev ownRef (r : Ref sig .scVector) : DevRef τ sig := (Proc.scVector (cV L) (jV L)).devRef r

omit [FloatOps F] in
theorem ownRef_ne {r r' : Ref sig .scVector} (h : r ≠ r') : ownRef L r ≠ ownRef L r' := fun e => absurd (Proc.devRef_injective _ e) h

omit [FloatOps F] in
/-- The tile's three scratch buffers are among its own. -/
theorem own_bufs :
    (ownBufs (thr d L) : sProp 𝕄)
      = iprop((∃ f, (gV).view.loc (thr d L) ↦{fullShare} f) ∗ (∃ f, (bV).view.loc (thr d L) ↦{fullShare} f) ∗ (∃ f, (sV).view.loc (thr d L) ↦{fullShare} f)
          ∗ bigSep ((((ownRefs (τ := τ) (.scVector (cV L) (jV L))).erase (ownRef L cc0_scratch0)).erase (ownRef L cc0_scratch1)).erase (ownRef L cc0_scratch2))
              fun b => iprop(∃ f, ((d, b) : Loc nD τ sig) ↦{fullShare} f)) := by
  unfold SparseCore.Cfg.ownBufs
  have m0 := (SparseCore.Cfg.mem_ownRefs_of_owner (p := Proc.scVector (cV L) (jV L)) (b := ownRef L cc0_scratch0) rfl)
  have m1 := Finset.mem_erase.mpr ⟨ownRef_ne L (r := cc0_scratch1) (r' := cc0_scratch0) (by decide), (SparseCore.Cfg.mem_ownRefs_of_owner (p := Proc.scVector (cV L) (jV L)) (b := ownRef L cc0_scratch1) rfl)⟩
  have m2 := Finset.mem_erase.mpr ⟨ownRef_ne L (r := cc0_scratch2) (r' := cc0_scratch1) (by decide),
    Finset.mem_erase.mpr ⟨ownRef_ne L (r := cc0_scratch2) (r' := cc0_scratch0) (by decide), (SparseCore.Cfg.mem_ownRefs_of_owner (p := Proc.scVector (cV L) (jV L)) (b := ownRef L cc0_scratch2) rfl)⟩⟩
  refine (SparseCore.bigSep_erase' m0).trans ?_
  rw [SparseCore.bigSep_erase' m1, SparseCore.bigSep_erase' m2]

/-- A tile's run, from its part of the operands to the same with its blocks written. -/
theorem tile_run (hF : (K (F := F)).Facts) (O : CellTallies nD τ sig (HIx 1)) (W : Waits sig (HIx 1)) (hO : ∀ g, O g none = 0) :
    iprop(levAts (K (F := F)).L (K (F := F)).lev ∗ emp ∗ tilePts m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0__pool_body L xV (Memref.isWhole_whole _) giV (Memref.isWhole_whole _) oV (Memref.isWhole_whole _) gV (Memref.isWhole_whole _)
            bV (Memref.isWhole_whole _) sV (Memref.isWhole_whole _) cc0_scoped0 cc0_scoped1 cc0_scoped2 cc0_scoped3 cc0_scoped4 cc0_scoped5 cc0_scoped6)
          fun _ => iprop(tilePts m d (cL L) (jL L) (outV m d : Buf (Elt F) (oLoc d))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), own_cells, own_bufs]
  iintro ⟨#Hlv, -, ⟨Hi, Hx, Ho⟩, ⟨⟨%fg, Hg⟩, ⟨%fb, Hb⟩, ⟨%fs, Hs⟩, Hbufs⟩, ⟨H0, H1, H3, H4, H6, Hsems⟩, HO⟩
  ihave #Hmw := (show levAts (K (F := F)).L (K (F := F)).lev ⊢ Transfers.MayWaits (thr d L) (default : HIx 1) O from
    (K (F := F)).mayWaits_none (thr := thr d L) hO) $$ Hlv
  ihave Ho' := (Entails.of_eq (tile_blocks (F := F) d L _)) $$ Ho
  icases Ho' with ⟨HA, HB⟩
  have hA : k0_off10 L 0 = 768 * gid L := by rw [k0_off10_eq]; show 3072 * (L 1).1 + 1536 * (L 0).1 = _; unfold gid; omega
  have hB : k0_off17 L 0 = 768 * (gid L + 1) := by rw [k0_off17_eq]; show 3072 * (L 1).1 + 1536 * (L 0).1 + 768 = _; unfold gid; omega
  iapply (wp_wand frame _ _) $$ [Hi Hx Hg Hb Hs HA HB H0 H1 H3 H4 H6 HO]
  · iapply (body_wp d L O W (flatX m d) (tileShare (cL L) (jL L)) (graphs m d) (tileShare (cL L) (jL L)) fg fb fs (m (oLoc d)) (m (oLoc d)) (outV m d)
      (outFn_block (flatX m d) (graphs m d) (k0_off10 L) (k0_off10_inb L) (gid L) hA)
      (outFn_block (flatX m d) (graphs m d) (k0_off17 L) (k0_off17_inb L) (gid L + 1) hB))
    isplitl []; · iexact Hmw
    isplitl [Hi]; · iexact Hi
    isplitl [Hx]; · iexact Hx
    isplitl [Hg]; · iexact Hg
    isplitl [Hb]; · iexact Hb
    isplitl [Hs]; · iexact Hs
    isplitl [HA]; · iexact HA
    isplitl [HB]; · iexact HB
    isplitl [H0]; · iexact H0
    isplitl [H1]; · iexact H1
    isplitl [H3]; · iexact H3
    isplitl [H4]; · iexact H4
    isplitl [H6]; · iexact H6
    iexists W
    isplitr
    · ipureintro; exact fun p hp => .inl hp
    iexact HO
  iintro %_ ⟨Hi, Hx, Hg, Hb, Hs, HA, HB, H0, H1, H3, H4, H6, HO⟩
  isplitl [Hi Hx HA HB]
  · isplitl [Hi]; · iexact Hi
    isplitl [Hx]; · iexact Hx
    iapply (Entails.of_eq (tile_blocks (F := F) d L _).symm)
    isplitl [HA]; · iexact HA
    iexact HB
  isplitl [Hg Hb Hs Hbufs]
  · isplitl [Hg]; · iexact Hg
    isplitl [Hb]; · iexact Hb
    isplitl [Hs]; · iexact Hs
    iexact Hbufs
  isplitl [H0 H1 H3 H4 H6 Hsems]
  · isplitl [H0]; · iexact H0
    isplitl [H1]; · iexact H1
    isplitl [H3]; · iexact H3
    isplitl [H4]; · iexact H4
    isplitl [H6]; · iexact H6
    iexact Hsems
  iexact HO

/-- The tile of SparseCore `c`, subcore `s`, by its grid coordinates. -/
def at2 (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__pool_body (at2 c s)
          xV (Memref.isWhole_whole _) giV (Memref.isWhole_whole _) oV (Memref.isWhole_whole _) gV (Memref.isWhole_whole _)
            bV (Memref.isWhole_whole _) sV (Memref.isWhole_whole _) cc0_scoped0 cc0_scoped1 cc0_scoped2 cc0_scoped3 cc0_scoped4 cc0_scoped5 cc0_scoped6) ⟨⟩ c s := rfl

omit [FloatOps F] in
theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; intro p hp; exact (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_run m d (at2 ⟨_, hci.1⟩ ⟨_, hci.2⟩) hF O W hO).trans (wp_mono frame _ _ fun _ => weaken_waits)

end Tile

/-! ## The start of the proof's own state -/

def u₀ : UU := (initOf (K (F := F)).hsCells (K (F := F)).hsToks, 1)

theorem start_own : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [hx, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore's part: a reshape, the call, a reshape -/

abbrev a0' : DevRef τ sig := Proc.devRef .tc (main_arg0 : Ref sig .tc)
abbrev a1' : DevRef τ sig := Proc.devRef .tc (main_arg1 : Ref sig .tc)
abbrev gi' : DevRef τ sig := Proc.devRef .tc (main_arg2 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev refs6 : Finset (DevRef τ sig) := {a0', a1', gi', x', o', r'}

abbrev opIn : HloOp τ sig (Elt F) := StableHlo.reshape main_arg0 main_v0 (rfl : (.f32 : EltTy) = .f32) shapeCasts_S10000x256_S2560000
abbrev opOut : HloOp τ sig (Elt F) := StableHlo.reshape main_v1 main_v2 (rfl : (.f32 : EltTy) = .f32) shapeCasts_S49152_S64x768

omit [FloatOps F] in
theorem held6 (d : Dev nD) (W : Valuation τ sig (Elt F)) :
    (held (T d) refs6 W : sProp 𝕄) = iprop((a0Loc d ↦{fullShare} W a0') ∗ (a1Loc d ↦{fullShare} W a1') ∗ (giLoc d ↦{fullShare} W gi')
      ∗ (xLoc d ↦{fullShare} W x') ∗ (oLoc d ↦{fullShare} W o') ∗ rLoc d ↦{fullShare} W r') := by
  unfold held refs6
  rw [SparseCore.bigSep_insert' (by decide), SparseCore.bigSep_insert' (by decide), SparseCore.bigSep_insert' (by decide),
    SparseCore.bigSep_insert' (by decide), SparseCore.bigSep_insert' (by decide), bigSep_singleton]

/-- The arrays at the launch; after the first reshape; after the call; after the second reshape. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (outV m d)
def V3 (d : Dev nD) : Valuation τ sig (Elt F) := (opOut (F := F)).result (V2 m d)

set_option maxRecDepth 16384 in
omit [FloatOps F] in
theorem start_held (d : Dev nD) : (unscopedBufs d (fun b => m ((SparseCore.T d).loc b)) : sProp 𝕄) = held (T d) refs6 (V0 m d) := by
  rw [held6]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem V1_of_ne (d : Dev nD) {b : DevRef τ sig} (h : b ∉ ({x'} : Finset (DevRef τ sig))) : V1 m d b = V0 m d b :=
  (opIn (F := F)).result_of_not_mem (V0 m d) (b := b) h
omit [FloatOps F] in
theorem V1_x (d : Dev nD) : V1 m d x' = flatX m d := StableHlo.reshape_result main_arg0 main_v0 _ _ _ _ (V0 m d)
theorem V2_of_ne (d : Dev nD) {b : DevRef τ sig} (h : b ≠ o') : V2 m d b = V1 m d b := Function.update_of_ne h _ _
theorem V2_o (d : Dev nD) : V2 m d o' = outV m d := Function.update_self _ _ _
theorem V3_of_ne (d : Dev nD) {b : DevRef τ sig} (h : b ∉ ({r'} : Finset (DevRef τ sig))) : V3 m d b = V2 m d b :=
  (opOut (F := F)).result_of_not_mem (V2 m d) (b := b) h

/-- The program's result. -/
abbrev resV (d : Dev nD) : S64x768.Idx → F .f32 := shapeCast S64x768 (outV m d) shapeCasts_S49152_S64x768

theorem V3_r (d : Dev nD) : V3 m d r' = resV m d :=
  (StableHlo.reshape_result main_v1 main_v2 _ _ _ _ (V2 m d)).trans (by rw [V2_o]; rfl)

/-- What the run leaves of the arrays. -/
abbrev FIN (d : Dev nD) : sProp 𝕄 :=
  iprop((a0Loc d ↦{fullShare} m (a0Loc d)) ∗ (a1Loc d ↦{fullShare} m (a1Loc d)) ∗ (giLoc d ↦{fullShare} m (giLoc d)) ∗ rLoc d ↦{fullShare} (resV m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c) = bigSep Finset.univ fun c : Fin 2 => corePts m d c (m (oLoc d)) :=
    bigSep_congr fun c _ => congrArg (fun c => corePts m d c (m (oLoc d))) (Fin.ext rfl)
  have hdn : (bigSep Finset.univ fun c : Fin ((K (F := F)).nCore 0) => (P m).dn 0 d c) = bigSep Finset.univ fun c : Fin 2 => corePts m d c (outV m d : Buf (Elt F) (oLoc d)) :=
    bigSep_congr fun c _ => congrArg (fun c => corePts m d c (outV m d : Buf (Elt F) (oLoc d))) (Fin.ext rfl)
  unfold SparseCore.Cfg.tcRes SparseCore.Cfg.tcEnd
  rw [start_held]
  simp only [main, wp_bind, wp_pure]
  iintro ⟨#Hctx, Hst, ⟨Hb, Hheld, Hts, -⟩, -⟩
  iapply (wp_hlo_within 𝒱 (SparseCore.T d) none Set.univ (op := opIn) (S := refs6) (show (opIn (F := F)).bufs ⊆ refs6 from show ({a0', x'} : Finset (DevRef τ sig)) ⊆ refs6 by decide) (V := V0 m d)) $$ [Hb Hheld]
  · isplitl [Hb]; · iexact Hb
    iexact Hheld
  iintro ⟨Hb, Hheld⟩
  ihave Hh := (Entails.of_eq ((show (held (T d) refs6 ((opIn (F := F)).result (V0 m d)) : sProp 𝕄) = held (T d) refs6 (V1 m d) from rfl).trans
    (held6 (F := F) d (V1 m d)))) $$ Hheld
  icases Hh with ⟨H0, H1, Hg, Hx, Ho, Hr⟩
  -- the call takes the graph numbers, the rows and the output
  ihave Hops := (Entails.of_eq (all_cores (F := F) m d (m (oLoc d)))) $$ [Hg Hx Ho]
  · rw [V1_of_ne m d (b := gi') (by decide), V1_of_ne m d (b := o') (by decide), V1_x]
    isplitl [Hg]; · iexact Hg
    isplitl [Hx]; · iexact Hx
    iexact Ho
  rw [wp_ret]; imodintro
  iapply ((K (F := F)).wp_run (D (F := F)) 𝒱 (EH := EH) (P := P m) κ d 0) $$ [Hst Hops Hb H0 H1 Hr Hts]
  isplitr; · iexact Hctx
  isplitl [Hst]; · iexact Hst
  isplitl [Hops]
  · rw [hst]; iexact Hops
  iintro ⟨Hst, Hdn⟩
  ihave Hdn' := (Entails.of_eq (hdn.trans (all_cores (F := F) m d (outV m d : Buf (Elt F) (oLoc d))).symm)) $$ Hdn
  icases Hdn' with ⟨Hg, Hx, Ho⟩
  iapply (wp_hlo_within 𝒱 (SparseCore.T d) none Set.univ (op := opOut) (S := refs6) (show (opOut (F := F)).bufs ⊆ refs6 from show ({o', r'} : Finset (DevRef τ sig)) ⊆ refs6 by decide) (V := V2 m d)) $$ [Hb H0 H1 Hg Hx Ho Hr]
  · isplitl [Hb]; · iexact Hb
    rw [held6, V2_o, V2_of_ne m d (b := a0') (by decide), V2_of_ne m d (b := a1') (by decide), V2_of_ne m d (b := gi') (by decide),
      V2_of_ne m d (b := x') (by decide), V2_of_ne m d (b := r') (by decide), V1_x, V1_of_ne m d (b := gi') (by decide)]
    isplitl [H0]; · iexact H0
    isplitl [H1]; · iexact H1
    isplitl [Hg]; · iexact Hg
    isplitl [Hx]; · iexact Hx
    isplitl [Ho]; · iexact Ho
    iexact Hr
  iintro ⟨Hb, Hheld⟩
  ihave Hh := (Entails.of_eq ((show (held (T d) refs6 ((opOut (F := F)).result (V2 m d)) : sProp 𝕄) = held (T d) refs6 (V3 m d) from rfl).trans
    (held6 (F := F) d (V3 m d)))) $$ Hheld
  icases Hh with ⟨H0, H1, Hg, -, -, Hr⟩
  ihave H0' := (Entails.of_eq (show ((a0Loc d ↦{fullShare} V3 m d a0' : sProp 𝕄)) = (a0Loc d ↦{fullShare} m (a0Loc d)) by
    rw [V3_of_ne m d (by decide), V2_of_ne m d (by decide), V1_of_ne m d (by decide)]; rfl)) $$ H0
  ihave H1' := (Entails.of_eq (show ((a1Loc d ↦{fullShare} V3 m d a1' : sProp 𝕄)) = (a1Loc d ↦{fullShare} m (a1Loc d)) by
    rw [V3_of_ne m d (by decide), V2_of_ne m d (by decide), V1_of_ne m d (by decide)]; rfl)) $$ H1
  ihave Hg' := (Entails.of_eq (show ((giLoc d ↦{fullShare} V3 m d gi' : sProp 𝕄)) = (giLoc d ↦{fullShare} m (giLoc d)) by
    rw [V3_of_ne m d (by decide), V2_of_ne m d (by decide), V1_of_ne m d (by decide)]; rfl)) $$ Hg
  ihave Hr' := (Entails.of_eq (show ((rLoc d ↦{fullShare} V3 m d r' : sProp 𝕄)) = (rLoc d ↦{fullShare} (resV m d : Buf (Elt F) (rLoc d))) by
    rw [V3_r])) $$ Hr
  rw [wp_ret]; imodintro; imodintro
  isplitl [Hst]; · iexact Hst
  isplitl [H0' H1' Hg' Hr']
  · isplitl [H0']; · iexact H0'
    isplitl [H1']; · iexact H1'
    isplitl [Hg']; · iexact Hg'
    iexact Hr'
  isplitl [Hb] <;> iassumption

/-! ## The run -/

/-- What the final memory holds: the arguments as at the launch, and the result. -/
def fq (d : Dev nD) (s' : Phys nD τ sig (Elt F)) : Prop :=
  s'.mem.mem (a0Loc d) = m (a0Loc d) ∧ s'.mem.mem (a1Loc d) = m (a1Loc d) ∧ s'.mem.mem (giLoc d) = m (giLoc d) ∧ s'.mem.mem (rLoc d) = (resV m d : Buf (Elt F) (rLoc d))

omit [FloatOps F] in
theorem agree_full {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, Hg, Hr⟩, HSI⟩
  ihave H := (agree_full (F := F)) $$ [H0 HSI]
  · isplitl [H0] <;> iassumption
  icases H with ⟨%h0, HSI⟩
  ihave H := (agree_full (F := F)) $$ [H1 HSI]
  · isplitl [H1] <;> iassumption
  icases H with ⟨%h1, HSI⟩
  ihave H := (agree_full (F := F)) $$ [Hg HSI]
  · isplitl [Hg] <;> iassumption
  icases H with ⟨%h2, HSI⟩
  ihave H := (agree_full (F := F)) $$ [Hr HSI]
  · isplitl [Hr] <;> iassumption
  icases H with ⟨%h3, -⟩
  ipureintro; exact ⟨h0, h1, h2, h3⟩

def QC : PUnit × MemSt nD τ sig (Elt F) → Prop := fun r =>
  (∀ c : Dev nD, r.2.mem (a0Loc c) = m (a0Loc c) ∧ r.2.mem (a1Loc c) = m (a1Loc c) ∧ r.2.mem (giLoc c) = m (giLoc c)
    ∧ r.2.mem (rLoc c) = (resV m c : Buf (Elt F) (rLoc c))) ∧ r.2.sem = fun _ => 0

/-- The program runs: it ends with its arguments as they were, every semaphore at zero, and its result the tiles' output
    in rows. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (start_own m)) (hmain m ρ) (fq m) (hfin m) (QC m) (fun _ h hz => ⟨h, hz⟩)

end Cert.Proof.KernelIdeal

end
-- ==== Proof.Reference.lean ====
/-
  The reference over the extended reals, entry by entry: the maximum, the sum and the number of the rows that bear a
  graph's number.
-/
module

public import proofs.«01_k».proof.Proof.Gen.ReferenceIdeal
public import Idealize.ShloMosaic.Lib.Pointwise
public import Idealize.ShloMosaic.Lib.Routing.OpsPair
public import Idealize.ShloMosaic.Lib.IdealHost

@[expose] public section

noncomputable section

namespace Cert.Proof.Reference

open Idealize.ShloMosaic Cert.ReferenceIdeal Cert.ReferenceIdeal.Gen

/-- The rows that bear graph number `g`. -/
def rowsOf (gi : IVec S10000 32) (g : ℕ) : Finset (Fin 10000) := Finset.univ.filter fun k => (gi (ix1 k)).toInt = g

variable (x : FVec Ideal S10000x256 .f32) (gi : IVec S10000 32)

/-- The array of the graphs' maxima. -/
abbrev maxima : FVec Ideal S64x256 .f32 :=
  Host.reduce FloatOps.maximumf (select (broadcastInDim S64x10000x256 ![0, 1, 2] bcast_S64x10000x1_S64x10000x256_0_1_2 (broadcastInDim S64x10000x1 ![0, 1] bcast_S64x10000_S64x10000x1_0_1 (cmpi .eq (broadcastInDim S64x10000 ![0, 1] bcast_S1x10000_S64x10000_0_1 (broadcastInDim S1x10000 ![1] bcast_S10000_S1x10000_1 gi)) (broadcastInDim S64x10000 ![0, 1] bcast_S64x1_S64x10000_0_1 (broadcastInDim S64x1 ![0] bcast_S64_S64x1_0 (iotaInDim S64 32 0)))))) (broadcastInDim S64x10000x256 ![0, 1, 2] bcast_S1x10000x256_S64x10000x256_0_1_2 (broadcastInDim S1x10000x256 ![1, 2] bcast_S10000x256_S1x10000x256_1_2 x)) (broadcastInDim S64x10000x256 ![] bcast_S_S64x10000x256 (id (constant S_ .f32 0xFF800000#32)))) (constant S_ .f32 0xFF800000#32) reducesTo_S64x10000x256_S64x256_d1 h_S_

/-- The array of the graphs' sums. -/
abbrev sums : FVec Ideal S64x256 .f32 :=
  Host.scatterAdd scatter_S64x256_S10000x1_S10000x256_1_0_0_1 (broadcastInDim S64x256 ![] bcast_S_S64x256 (constant S_ .f32 0x00000000#32)) (broadcastInDim S10000x1 ![0] bcast_S10000_S10000x1_0 gi) x

/-- The column of the graphs' numbers of rows. -/
abbrev counts : FVec Ideal S64x1 .f32 :=
  Host.scatterAdd scatter_S64x1_S10000x1_S10000x1_1_0_0_1 (broadcastInDim S64x1 ![] bcast_S_S64x1 (constant S_ .f32 0x00000000#32)) (broadcastInDim S10000x1 ![0] bcast_S10000_S10000x1_0 gi) (broadcastInDim S10000x1 ![] bcast_S_S10000x1 (constant S_ .f32 0x3F800000#32))

/-- The array of the graphs' means. -/
abbrev means : FVec Ideal S64x256 .f32 :=
  Host.divf (sums x gi) (broadcastInDim S64x256 ![0, 1] bcast_S64x1_S64x256_0_1 (maximumf (counts gi) (broadcastInDim S64x1 ![] bcast_S_S64x1 (constant S_ .f32 0x3F800000#32))))

/-- The result: the three side by side. -/
abbrev result : FVec Ideal S64x768 .f32 :=
  concatenate S64x768 1 [⟨S64x256, maxima x gi⟩, ⟨S64x256, means x gi⟩, ⟨S64x256, sums x gi⟩] concatenates_S64x256_S64x256_S64x256_S64x768_d1

/-- The f32 pattern of minus infinity is the least extended real. -/
theorem ofBits_least : Ideal.ofBits .f32 0xFF800000#32 = ⊥ := by
  simp [Ideal.ofBits, Ideal.ieee]

/-- A word is that of the graph number `g` exactly when, read signed, it is `g`. -/
theorem word_eq_iff (w : BitVec 32) (g : Fin 64) : w = BitVec.ofNat 32 g.1 ↔ w.toInt = g.1 := by
  have hg : (BitVec.ofNat 32 g.1).toInt = g.1 := by
    have := g.2
    rw [BitVec.toInt_ofNat', Int.bmod_eq_of_le (by omega) (by omega)]
  rw [← BitVec.toInt_inj, hg]

/-- What a maximum is at most: what every row of the graph is at most. -/
theorem maxima_le (g : Fin 64) (c : Fin 256) (z : EReal) :
    maxima x gi (ix2 g c) ≤ z ↔ ∀ k ∈ rowsOf gi g, x (ix2 k c) ≤ z := by
  unfold maxima rowsOf
  pointwise
  rw [ofBits_least, Finset.fold_max_le]
  simp only [bot_le, true_and, Finset.mem_univ, true_implies, Finset.mem_filter]
  refine forall_congr' fun k => ?_
  by_cases h : gi (ix1 k) = BitVec.ofNat 32 g.1
  · have h' := (word_eq_iff _ g).1 h
    simp [Scalar.select, IntOp.cmpi, h, h', h ▸ h']
  · have h' := fun e => h ((word_eq_iff _ g).2 e)
    have hb : (gi (ix1 k) == BitVec.ofNat 32 g.1) = false := by simpa using h
    have hc : constant (F := Ideal) S_ .f32 0xFF800000#32 ix0 = (⊥ : EReal) := ofBits_least
    simp [Scalar.select, IntOp.cmpi, hb, hc]
    exact fun e => absurd e h'

/-- Where the sums' update `(k, b)` goes: the graph number of row `k`, and column `b`. -/
theorem sums_lands (idx : IVec S10000x1 32) (k : Fin 10000) (b : Fin 256) (g : Fin 64) (c : Fin 256) :
    scatter_S64x256_S10000x1_S10000x256_1_0_0_1.resultIdx? (ix2 k b) idx = some (ix2 g c) ↔ (idx (ix2 k 0)).toInt = g.1 ∧ b = c := by
  have h0 : scatter_S64x256_S10000x1_S10000x256_1_0_0_1.start (ix2 k b) idx 0 = (idx (ix2 k 0)).toInt := by
    unfold ScatterDims.start
    rw [dif_pos (by decide)]
    congr 2
    funext a
    match a with
    | 0 => rfl
    | 1 => rfl
  have h1 : scatter_S64x256_S10000x1_S10000x256_1_0_0_1.start (ix2 k b) idx 1 = 0 := by
    unfold ScatterDims.start; rw [dif_neg (by decide)]
  have w0 : scatter_S64x256_S10000x1_S10000x256_1_0_0_1.window (ix2 k b) 0 = 0 := by
    unfold ScatterDims.window; rw [dif_neg (by decide)]
  have w1 : scatter_S64x256_S10000x1_S10000x256_1_0_0_1.window (ix2 k b) 1 = b.1 := by
    unfold ScatterDims.window; rw [dif_pos (by decide)]; rfl
  rw [Routing.resultIdx?_eq_some]
  refine (Fin.forall_fin_two (p := fun a => scatter_S64x256_S10000x1_S10000x256_1_0_0_1.start (ix2 k b) idx a
    + (scatter_S64x256_S10000x1_S10000x256_1_0_0_1.window (ix2 k b) a : ℤ) = ((ix2 g c a).1 : ℤ))).trans ?_
  rw [h0, h1, w0, w1, Fin.ext_iff]
  show (_ + ((0 : ℕ) : ℤ) = (g.1 : ℤ) ∧ 0 + (b.1 : ℤ) = (c.1 : ℤ)) ↔ _
  omega

/-- Where the counts' update `(k, b)` goes. -/
theorem counts_lands (idx : IVec S10000x1 32) (k : Fin 10000) (b : Fin 1) (g : Fin 64) (c : Fin 1) :
    scatter_S64x1_S10000x1_S10000x1_1_0_0_1.resultIdx? (ix2 k b) idx = some (ix2 g c) ↔ (idx (ix2 k 0)).toInt = g.1 ∧ b = c := by
  have h0 : scatter_S64x1_S10000x1_S10000x1_1_0_0_1.start (ix2 k b) idx 0 = (idx (ix2 k 0)).toInt := by
    unfold ScatterDims.start
    rw [dif_pos (by decide)]
    congr 2
    funext a
    match a with
    | 0 => rfl
    | 1 => rfl
  have h1 : scatter_S64x1_S10000x1_S10000x1_1_0_0_1.start (ix2 k b) idx 1 = 0 := by
    unfold ScatterDims.start; rw [dif_neg (by decide)]
  have w0 : scatter_S64x1_S10000x1_S10000x1_1_0_0_1.window (ix2 k b) 0 = 0 := by
    unfold ScatterDims.window; rw [dif_neg (by decide)]
  have w1 : scatter_S64x1_S10000x1_S10000x1_1_0_0_1.window (ix2 k b) 1 = b.1 := by
    unfold ScatterDims.window; rw [dif_pos (by decide)]; rfl
  rw [Routing.resultIdx?_eq_some]
  refine (Fin.forall_fin_two (p := fun a => scatter_S64x1_S10000x1_S10000x1_1_0_0_1.start (ix2 k b) idx a
    + (scatter_S64x1_S10000x1_S10000x1_1_0_0_1.window (ix2 k b) a : ℤ) = ((ix2 g c a).1 : ℤ))).trans ?_
  rw [h0, h1, w0, w1, Fin.ext_iff]
  show (_ + ((0 : ℕ) : ℤ) = (g.1 : ℤ) ∧ 0 + (b.1 : ℤ) = (c.1 : ℤ)) ↔ _
  omega

/-- A sum is the sum of the graph's rows. -/
theorem sums_eq (g : Fin 64) (c : Fin 256) : sums x gi (ix2 g c) = ∑ k ∈ rowsOf gi g, x (ix2 k c) := by
  have hi : ∀ k : Fin 10000, broadcastInDim S10000x1 ![0] bcast_S10000_S10000x1_0 gi (ix2 k 0) = gi (ix1 k) := fun k => by pointwise
  have hz : broadcastInDim S64x256 ![] bcast_S_S64x256 (constant (F := Ideal) S_ .f32 0x00000000#32) (ix2 g c) = 0 := by pointwise
  refine Eq.trans (b := _ + ∑ j ∈ Finset.univ.filter (fun j => scatter_S64x256_S10000x1_S10000x256_1_0_0_1.resultIdx? j
    (broadcastInDim S10000x1 ![0] bcast_S10000_S10000x1_0 gi) = some (ix2 g c)), x j) rfl ?_
  rw [hz, zero_add, Finset.sum_filter, sum_idx2, rowsOf, Finset.sum_filter]
  refine Finset.sum_congr rfl fun k _ => ?_
  simp only [sums_lands, hi]
  by_cases h : (gi (ix1 k)).toInt = g.1 <;> simp [h]

/-- A count is the number of the graph's rows. -/
theorem counts_eq (g : Fin 64) : counts gi (ix2 g 0) = ((rowsOf gi g).card : EReal) := by
  have hi : ∀ k : Fin 10000, broadcastInDim S10000x1 ![0] bcast_S10000_S10000x1_0 gi (ix2 k 0) = gi (ix1 k) := fun k => by pointwise
  have hz : broadcastInDim S64x1 ![] bcast_S_S64x1 (constant (F := Ideal) S_ .f32 0x00000000#32) (ix2 g 0) = 0 := by pointwise
  have ho : ∀ (k : Fin 10000) (b : Fin 1), broadcastInDim S10000x1 ![] bcast_S_S10000x1 (constant (F := Ideal) S_ .f32 0x3F800000#32) (ix2 k b) = (1 : EReal) :=
    fun k b => by pointwise
  refine Eq.trans (b := _ + ∑ j ∈ Finset.univ.filter (fun j => scatter_S64x1_S10000x1_S10000x1_1_0_0_1.resultIdx? j
    (broadcastInDim S10000x1 ![0] bcast_S10000_S10000x1_0 gi) = some (ix2 g 0)),
      broadcastInDim S10000x1 ![] bcast_S_S10000x1 (constant (F := Ideal) S_ .f32 0x3F800000#32) j) rfl ?_
  rw [hz, zero_add, Finset.sum_filter, sum_idx2, rowsOf, Finset.card_eq_sum_ones, Nat.cast_sum, Finset.sum_filter]
  refine Finset.sum_congr rfl fun k _ => ?_
  simp only [counts_lands, hi, ho]
  by_cases h : (gi (ix1 k)).toInt = g.1 <;> simp [h]

/-- A mean is the sum over the number of rows, over one when there is no row. -/
theorem means_eq (g : Fin 64) (c : Fin 256) :
    means x gi (ix2 g c) = Ideal.div (∑ k ∈ rowsOf gi g, x (ix2 k c)) (max ((rowsOf gi g).card : EReal) 1) := by
  rw [← sums_eq, ← counts_eq]
  unfold means
  generalize sums x gi = s
  generalize counts gi = n
  pointwise

/-- The result's three parts. -/
theorem result_eq (g : Fin 64) (n : Fin 768) :
    result x gi (ix2 g n) = if h : n.1 < 256 then maxima x gi (ix2 g ⟨n.1, h⟩)
      else if h : n.1 - 256 < 256 then means x gi (ix2 g ⟨n.1 - 256, h⟩) else sums x gi (ix2 g ⟨n.1 - 256 - 256, by have := n.2; omega⟩) := by
  unfold result
  generalize maxima x gi = A
  generalize means x gi = B
  generalize sums x gi = C
  pointwise

end Cert.Proof.Reference

end
-- ==== Proof.Segment.lean ====
/-
  What a graph's block holds over the extended reals when the rows are in the order of their graphs: the search ends at
  the graph's first row, so the rows between two searches' ends are exactly the graph's, and the words of the block are
  their maximum, their mean and their sum.
-/
module

public import proofs.«01_k».proof.Proof.KernelIdeal.Launch
public import proofs.«01_k».proof.Proof.Reference

@[expose] public section

noncomputable section

namespace Cert.Proof

open Cert.KernelIdeal Cert.KernelIdeal.Gen Idealize.ShloMosaic

/-- Cutting the row's numbers off at a bound that `g` does not pass changes no halving of the search for `g`. -/
theorem srch_min (G : ℕ → ℤ) {g t : ℤ} (h : g ≤ t) (n : ℕ) : srch (fun i => min (G i) t) g n = srch G g n := by
  induction n with
  | zero => rfl
  | succ n ih =>
    have e : ∀ i, min (G i) t < g ↔ G i < g := fun i => by omega
    simp only [srch, stp, ih, e]

namespace KernelIdeal

section bounds

variable {gi : S10000.Idx → BitVec 32}

theorem gnum_eq (k : Fin 10000) : gnum gi k.1 = (gi (ix1 k)).toInt := by
  unfold gnum
  rw [dif_pos k.2]
  congr 2
  funext a
  match a with
  | 0 => rfl

/-- On rows in order, the rows before the end of the search for `g` are those of the graphs below `g`. -/
theorem bnd_iff (hs : ∀ i j : Fin 10000, i ≤ j → (gi (ix1 i)).toInt ≤ (gi (ix1 j)).toInt) {g : ℕ} (hg : g ≤ 64) (k : Fin 10000) :
    k.1 < bnd gi g ↔ (gi (ix1 k)).toInt < g := by
  have hm : ∀ i j, i ≤ j → j ≤ 10000 → min (gnum gi i) 64 ≤ min (gnum gi j) 64 := by
    intro i j hij hj
    rcases Nat.lt_or_ge j 10000 with h | h
    · have := hs ⟨i, by omega⟩ ⟨j, h⟩ hij
      rw [← gnum_eq, ← gnum_eq] at this
      dsimp only at this
      omega
    · have := gnum_last gi (g := 64) le_rfl
      rw [show j = 10000 by omega]
      omega
  have h := lbnd_iff (G := fun i => min (gnum gi i) 64) (g := g) (i := k.1)
    (by have := gnum_last gi (g := g) (by omega); omega) hm (by omega)
  unfold bnd
  rw [lbnd, ← srch_min (gnum gi) (g := g) (t := 64) (by omega), ← lbnd, h, ← gnum_eq]
  omega

/-- On rows in order, a graph's rows are those from the end of its search up to the end of the next graph's. -/
theorem mem_rowsOf (hs : ∀ i j : Fin 10000, i ≤ j → (gi (ix1 i)).toInt ≤ (gi (ix1 j)).toInt) {g : ℕ} (hg : g < 64) (k : Fin 10000) :
    k ∈ Reference.rowsOf gi g ↔ bnd gi g ≤ k.1 ∧ k.1 < bnd gi (g + 1) := by
  have h1 := bnd_iff hs (g := g) (by omega) k
  have h2 := bnd_iff hs (g := g + 1) (by omega) k
  rw [h2, ← not_lt, h1, Reference.rowsOf, Finset.mem_filter]
  simp only [Finset.mem_univ, true_and]
  push_cast
  omega

/-- On rows in order, the ends of the searches are in order. -/
theorem bnd_mono (hs : ∀ i j : Fin 10000, i ≤ j → (gi (ix1 i)).toInt ≤ (gi (ix1 j)).toInt) {g : ℕ} (hg : g < 64) :
    bnd gi g ≤ bnd gi (g + 1) := by
  by_contra hc
  have hl := bnd_le gi (g := g) (by omega)
  have h1 := (bnd_iff hs (g := g) (by omega) ⟨bnd gi (g + 1), by omega⟩).1 (by dsimp only; omega)
  have h2 := (bnd_iff hs (g := g + 1) (by omega) ⟨bnd gi (g + 1), by omega⟩).2 (by push_cast; omega)
  dsimp only at h2
  omega

/-- A sum over a graph's rows, as a sum over the distance from its first row. -/
theorem sum_rowsOf (hs : ∀ i j : Fin 10000, i ≤ j → (gi (ix1 i)).toInt ≤ (gi (ix1 j)).toInt) {g : ℕ} (hg : g < 64) (f : ℕ → EReal) :
    ∑ k ∈ Reference.rowsOf gi g, f k.1 = ∑ i ∈ Finset.range (bnd gi (g + 1) - bnd gi g), f (bnd gi g + i) := by
  have hl := bnd_le gi (g := g + 1) (by omega)
  rw [← Finset.sum_Ico_eq_sum_range]
  refine Finset.sum_bij (fun k _ => k.1) (fun k hk => ?_) (fun a _ b _ h => Fin.ext h) (fun n hn => ?_) (fun _ _ => rfl)
  · exact Finset.mem_Ico.2 ((mem_rowsOf hs hg k).1 hk)
  · have := Finset.mem_Ico.1 hn
    exact ⟨⟨n, by omega⟩, (mem_rowsOf hs hg _).2 this, rfl⟩

/-- The number of a graph's rows. -/
theorem card_rowsOf (hs : ∀ i j : Fin 10000, i ≤ j → (gi (ix1 i)).toInt ≤ (gi (ix1 j)).toInt) {g : ℕ} (hg : g < 64) :
    (Reference.rowsOf gi g).card = bnd gi (g + 1) - bnd gi g := by
  have hl := bnd_le gi (g := g + 1) (by omega)
  rw [← Nat.card_Ico]
  refine Finset.card_bij (fun k _ => k.1) (fun k hk => ?_) (fun a _ b _ h => Fin.ext h) (fun n hn => ?_)
  · exact Finset.mem_Ico.2 ((mem_rowsOf hs hg k).1 hk)
  · have := Finset.mem_Ico.1 hn
    exact ⟨⟨n, by omega⟩, (mem_rowsOf hs hg _).2 this, rfl⟩

end bounds

section block

variable (x : S2560000.Idx → Ideal .f32)

/-- The sums the loops carry, at a lane. -/
theorem sumAcc_apply (a n : ℕ) (r : Fin 16) (y : S16.Idx) :
    sumAcc x a n r y = ∑ i ∈ Finset.range n, xat x ((a + i) * 256 + 16 * r.1 + (y 0).1) := by
  induction n with
  | zero => exact Ideal.ofBits_zero_f32
  | succ n ih => rw [Finset.sum_range_succ, ← ih]; rfl

/-- What the maxima the loops carry are at most, at a lane. -/
theorem maxAcc_le (a n : ℕ) (r : Fin 16) (y : S16.Idx) (z : EReal) :
    maxAcc x a n r y ≤ z ↔ ∀ i < n, xat x ((a + i) * 256 + 16 * r.1 + (y 0).1) ≤ z := by
  induction n with
  | zero =>
    have : maxAcc x a 0 r y = (⊥ : EReal) := Reference.ofBits_least
    simp [this]
  | succ n ih =>
    have : maxAcc x a (n + 1) r y = max (maxAcc x a n r y : EReal) (xat x ((a + n) * 256 + 16 * r.1 + (y 0).1)) := rfl
    rw [this, max_le_iff, ih]
    refine ⟨fun ⟨h1, h2⟩ i hi => ?_, fun h => ⟨fun i hi => h i (by omega), h n (by omega)⟩⟩
    rcases Nat.lt_or_ge i n with h | h
    · exact h1 i h
    · rwa [show i = n by omega]

/-- The factor of the means: one over the number of rows, over one when there is no row. -/
theorem wt_apply {a b : ℕ} (hab : a ≤ b) (hb : b ≤ 10000) (y : S16.Idx) :
    wt (F := Ideal) a b y = Ideal.div 1 (max ((b - a : ℕ) : EReal) 1) := by
  have h : (Scalar.maxsi (Scalar.subi (wd b) (wd a)) 1#32).toInt = max ((b : ℤ) - a) 1 :=
    isInt_toInt (Affine.maxsi (Affine.subi (e := (b : ℤ) - a) (wd_int hb) (wd_int (hab.trans hb)) (by omega))
      (eb := 1) (isInt_of (by decide)) rfl)
  have e : wt (F := Ideal) a b y = Ideal.div (Ideal.ofBits .f32 0x3F800000#32)
    (((Scalar.maxsi (Scalar.subi (wd b) (wd a)) 1#32).toInt : ℝ) : EReal) := rfl
  rw [e, h, Ideal.ofBits_one_f32, show ((b : ℤ) - a) = ((b - a : ℕ) : ℤ) by omega]
  congr 1
  push_cast
  exact Monotone.map_max EReal.coe_strictMono.monotone

end block

end KernelIdeal

end Cert.Proof

end
-- ==== Proof.Values.lean ====
/-
  The kernel's result is the reference's, over the extended reals, when the rows are in the order of their graphs.
-/
module

public import proofs.«01_k».proof.Proof.Segment
public import proofs.«01_k».proof.Proof.Gen.Pre_sorted_graphs
public import Idealize.ShloMosaic.Lib.ReduceAll

@[expose] public section

noncomputable section

namespace Cert.Proof

open Cert.KernelIdeal Cert.KernelIdeal.Gen Idealize.ShloMosaic

/-- The precondition, in words on the rows: a row's graph number is not above a later row's. -/
theorem sorted_of_pre (x : FVec Ideal S10000x256 .f32) (e : IVec S2x160000 32) (gi : IVec S10000 32)
    (h : @Cert.Pre_sorted_graphs.fn Cert.Pre_sorted_graphs.Gen.facts Ideal _ x e gi = fun _ => 1#1) :
    ∀ i j : Fin 10000, i ≤ j → (gi (ix1 i)).toInt ≤ (gi (ix1 j)).toInt := by
  have step : ∀ n : Fin 9999, (gi (ix1 ⟨n.1, by omega⟩)).toInt ≤ (gi (ix1 ⟨n.1 + 1, by omega⟩)).toInt := by
    intro n
    have := Host.reduce_andi_all _ _ _ _ ix0 (congrFun h ix0) (ix1 n)
    revert this
    pointwise
    rw [show (⟨1 + n.1, by omega⟩ : Fin 10000) = ⟨n.1 + 1, by omega⟩ from Fin.ext (Nat.add_comm _ _)]
    simp only [IntOp.cmpi]
    generalize (gi (ix1 ⟨n.1, _⟩)) = v
    generalize (gi (ix1 ⟨n.1 + 1, _⟩)) = w
    intro hb
    have hb : v.sle w = true := by
      cases hvw : v.sle w with
      | true => rfl
      | false => rw [hvw] at hb; exact absurd hb (by decide)
    simpa [BitVec.sle] using hb
  intro i j hij
  obtain ⟨k, hk⟩ := Nat.exists_eq_add_of_le (Fin.le_def.1 hij)
  induction k generalizing j with
  | zero => rw [show j = i from Fin.ext (by omega)]
  | succ k ih =>
    have h1 := ih ⟨i.1 + k, by omega⟩ (by rw [Fin.le_def]; dsimp only; omega) rfl
    have h2 := step ⟨i.1 + k, by omega⟩
    rw [show j = ⟨i.1 + k + 1, by omega⟩ from Fin.ext (by dsimp only; omega)]
    exact h1.trans h2

namespace KernelIdeal

/-- A word of the flat rows, by its row and column. -/
theorem xat_flat (x : FVec Ideal S10000x256 .f32) (k : Fin 10000) (c : Fin 256) (n : ℕ) (hn : n = k.1 * 256 + c.1) :
    xat (shapeCast S2560000 x shapeCasts_S10000x256_S2560000) n = x (ix2 k c) := by
  have h := k.2
  have h' := c.2
  have e : xat (shapeCast S2560000 x shapeCasts_S10000x256_S2560000) n
      = shapeCast S2560000 x shapeCasts_S10000x256_S2560000 (ix1 ⟨n % 2560000, by omega⟩) := by
    unfold xat
    congr 1
    funext a
    match a with
    | 0 => rfl
  rw [e]
  pointwise
  congr 2 <;> exact Fin.ext (by dsimp only; omega)

/-- A word of the result: word `n` of the block of graph `g`. -/
theorem res_apply (o : FVec Ideal S49152 .f32) (g : Fin 64) (n : Fin 768) :
    shapeCast S64x768 o shapeCasts_S49152_S64x768 (ix2 g n) = o (ix1 ⟨g.1 * 768 + n.1, by omega⟩) := by
  pointwise

/-- A word's lane group and lane are its column. -/
theorem column (m : ℕ) : 16 * (grp m).1 + (lane m 0).1 = m % 256 := by
  show 16 * (m / 16 % 16) + m % 16 = m % 256
  omega

/-- A word of the output lies in its graph's block. -/
theorem outFn_apply (x : S2560000.Idx → Ideal .f32) (gi : S10000.Idx → BitVec 32) (g : Fin 64) (n : Fin 768) :
    outFn x gi (ix1 ⟨g.1 * 768 + n.1, by omega⟩) = blk (sumAcc x (bnd gi g.1) (bnd gi (g.1 + 1) - bnd gi g.1))
      (maxAcc x (bnd gi g.1) (bnd gi (g.1 + 1) - bnd gi g.1)) (wt (F := Ideal) (bnd gi g.1) (bnd gi (g.1 + 1))) n.1 := by
  have h1 : (g.1 * 768 + n.1) / 768 = g.1 := by omega
  have h2 : (g.1 * 768 + n.1) % 768 = n.1 := by omega
  show blk (sumAcc x (bnd gi ((g.1 * 768 + n.1) / 768)) (bnd gi ((g.1 * 768 + n.1) / 768 + 1) - bnd gi ((g.1 * 768 + n.1) / 768)))
    (maxAcc x (bnd gi ((g.1 * 768 + n.1) / 768)) (bnd gi ((g.1 * 768 + n.1) / 768 + 1) - bnd gi ((g.1 * 768 + n.1) / 768)))
    (wt (F := Ideal) (bnd gi ((g.1 * 768 + n.1) / 768)) (bnd gi ((g.1 * 768 + n.1) / 768 + 1))) ((g.1 * 768 + n.1) % 768) = _
  rw [h1, h2]

section equal

variable (x : FVec Ideal S10000x256 .f32) {gi : S10000.Idx → BitVec 32}
variable (hs : ∀ i j : Fin 10000, i ≤ j → (gi (ix1 i)).toInt ≤ (gi (ix1 j)).toInt) (g : Fin 64) (c : Fin 256) (m : ℕ) (hm : m % 256 = c.1)

include hs hm

/-- The block's sums are the reference's. -/
theorem sum_eq : sumAcc (shapeCast S2560000 x shapeCasts_S10000x256_S2560000) (bnd gi g.1) (bnd gi (g.1 + 1) - bnd gi g.1) (grp m) (lane m)
    = ∑ k ∈ Reference.rowsOf gi g.1, x (ix2 k c) := by
  rw [sumAcc_apply, ← sum_rowsOf hs g.2
    (fun n => xat (shapeCast S2560000 x shapeCasts_S10000x256_S2560000) (n * 256 + 16 * (grp m).1 + (lane m 0).1))]
  exact Finset.sum_congr rfl fun k _ => xat_flat x k c _ (by have := column m; omega)

/-- The block's maxima are the reference's. -/
theorem max_eq : maxAcc (shapeCast S2560000 x shapeCasts_S10000x256_S2560000) (bnd gi g.1) (bnd gi (g.1 + 1) - bnd gi g.1) (grp m) (lane m)
    = Reference.maxima x gi (ix2 g c) := by
  refine eq_of_forall_ge_iff fun z => ?_
  rw [maxAcc_le, Reference.maxima_le]
  have hl := bnd_le gi (g := g.1 + 1) (by omega)
  have hc := column m
  refine ⟨fun h k hk => ?_, fun h i hi => ?_⟩
  · obtain ⟨h1, h2⟩ := (mem_rowsOf hs g.2 k).1 hk
    have := h (k.1 - bnd gi g.1) (by omega)
    rwa [xat_flat x k c _ (by rw [show bnd gi g.1 + (k.1 - bnd gi g.1) = k.1 by omega]; omega)] at this
  · rw [xat_flat x ⟨bnd gi g.1 + i, by omega⟩ c _ (by dsimp only; omega)]
    exact h _ ((mem_rowsOf hs g.2 _).2 ⟨by dsimp only; omega, by dsimp only; omega⟩)

/-- The block's means are the reference's. -/
theorem mean_eq : mulf (sumAcc (shapeCast S2560000 x shapeCasts_S10000x256_S2560000) (bnd gi g.1) (bnd gi (g.1 + 1) - bnd gi g.1) (grp m))
    (wt (F := Ideal) (bnd gi g.1) (bnd gi (g.1 + 1))) (lane m) = Reference.means x gi (ix2 g c) := by
  refine Eq.trans (b := (sumAcc (shapeCast S2560000 x shapeCasts_S10000x256_S2560000) (bnd gi g.1) (bnd gi (g.1 + 1) - bnd gi g.1) (grp m) (lane m) : EReal)
    * wt (F := Ideal) (bnd gi g.1) (bnd gi (g.1 + 1)) (lane m)) rfl ?_
  rw [Reference.means_eq, sum_eq x hs g c m hm, wt_apply (bnd_mono hs g.2) (bnd_le gi (by omega)), card_rowsOf hs g.2]
  exact Ideal.mul_one_div (ne_of_gt (lt_of_lt_of_le zero_lt_one (le_max_right _ _)))

end equal

/-- The kernel's result, reshaped to rows, is the reference's when the rows are in the order of their graphs. -/
theorem res_eq (x : FVec Ideal S10000x256 .f32) {gi : S10000.Idx → BitVec 32}
    (hs : ∀ i j : Fin 10000, i ≤ j → (gi (ix1 i)).toInt ≤ (gi (ix1 j)).toInt) :
    shapeCast S64x768 (outFn (shapeCast S2560000 x shapeCasts_S10000x256_S2560000) gi) shapeCasts_S49152_S64x768 = Reference.result x gi := by
  funext i
  obtain ⟨g, n, rfl⟩ : ∃ (g : Fin 64) (n : Fin 768), i = ix2 g n := ⟨_, _, eq_ix2 i⟩
  have hn := n.2
  rw [res_apply, outFn_apply, Reference.result_eq, blk]
  split
  · exact max_eq x hs g ⟨n.1, by omega⟩ n.1 (by dsimp only; omega)
  · by_cases h : n.1 < 512
    · rw [if_pos h, dif_pos (by omega)]
      exact mean_eq x hs g ⟨n.1 - 256, by omega⟩ n.1 (by dsimp only; omega)
    · rw [if_neg h, dif_neg (by omega), Reference.sums_eq]
      exact sum_eq x hs g ⟨n.1 - 256 - 256, by omega⟩ n.1 (by dsimp only; omega)

end KernelIdeal

end Cert.Proof

end
-- ==== Proof.lean ====
/-
  The certificate: each claim of `proof/Defs.lean` proved from the run of the program (`Proof/Kernel`,
  `Proof/KernelIdeal`), the run of the reference and the equality of their values.
-/
module

public import proofs.«01_k».proof.Defs
public import proofs.«01_k».proof.Proof.Kernel.Launch
public import proofs.«01_k».proof.Proof.KernelIdeal.Launch
public import proofs.«01_k».proof.Proof.Values
public import proofs.«01_k».proof.Proof.Gen.ReferenceIdeal
public import proofs.«01_k».proof.Proof.Gen.ReferenceIdeal.Run
public import proofs.«01_k».proof.Proof.Gen.Pre_sorted_graphs
public import Idealize.ShloMosaic.Lib.Quiescent
public import Idealize.ShloMosaic.Adequacy
public import Idealize.ShloMosaic.Init

@[expose] public section

noncomputable section

namespace Cert.Proof

open Idealize.ShloMosaic Idealize.SL.Sem

/-- The kernel, bit for bit: its arguments end as they started and every semaphore counter ends at zero. -/
theorem frame_k : Cert.quiescent_Kernel (hKernel := Cert.Kernel.Gen.facts) := fun m ρ _ =>
  (θ_run (Cert.Kernel.defs (F := Bits)) _ _).mono (fun _ h => ⟨fun c => ⟨(h.1 c).1, (h.1 c).2.1, (h.1 c).2.2.1⟩, h.2⟩)
    (Kernel.run_main (F := Bits) m ρ)

/-- The same for the kernel over the extended reals. -/
theorem frame_i : Cert.quiescent_KernelIdeal (hKernelIdeal := Cert.KernelIdeal.Gen.facts) := fun m ρ _ =>
  (θ_run (Cert.KernelIdeal.defs (F := Ideal)) _ _).mono (fun _ h => ⟨fun c => ⟨(h.1 c).1, (h.1 c).2.1, (h.1 c).2.2.1⟩, h.2⟩)
    (KernelIdeal.run_main (F := Ideal) m ρ)

/-- The same from memories whose rows are in the order of their graphs. -/
theorem frame_i_sorted : Cert.quiescent_KernelIdeal_pre_sorted_graphs (hKernelIdeal := Cert.KernelIdeal.Gen.facts)
    (hPre_sorted_graphs := Cert.Pre_sorted_graphs.Gen.facts) := fun m ρ _ =>
  (θ_run (Cert.KernelIdeal.defs (F := Ideal)) _ _).mono (fun _ h => ⟨fun c => ⟨(h.1 c).1, (h.1 c).2.1, (h.1 c).2.2.1⟩, h.2⟩)
    (KernelIdeal.run_main (F := Ideal) m ρ)

/-- The reference over the extended reals: its arguments end as they started; it has no semaphores. -/
theorem frame_r : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The same from memories whose rows are in the order of their graphs. -/
theorem frame_r_sorted : Cert.quiescent_ReferenceIdeal_pre_sorted_graphs (hReferenceIdeal := Cert.ReferenceIdeal.Gen.facts)
    (hPre_sorted_graphs := Cert.Pre_sorted_graphs.Gen.facts) := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- From memories whose rows are in the order of their graphs, the kernel and the reference end with one result over
    the extended reals, their arguments as they were. -/
theorem equal_sorted : Cert.algebraic_KernelIdeal_ReferenceIdeal_pre_sorted_graphs (hKernelIdeal := Cert.KernelIdeal.Gen.facts)
    (hReferenceIdeal := Cert.ReferenceIdeal.Gen.facts) (hPre_sorted_graphs := Cert.Pre_sorted_graphs.Gen.facts) :=
  fun m ρ m' ρ' hpre hag => ⟨fun c => KernelIdeal.resV m c,
    (θ_run (Cert.KernelIdeal.defs (F := Ideal)) _ _).mono
      (fun _ h c => ⟨(h.1 c).2.2.2, (h.1 c).1, (h.1 c).2.1, (h.1 c).2.2.1⟩) (KernelIdeal.run_main (F := Ideal) m ρ),
    (θ_run (Cert.ReferenceIdeal.defs (F := Ideal)) _ _).mono
      (fun _ h c => ⟨(h c).1.trans (by
        rw [(hag c).1, (hag c).2.2]
        exact (KernelIdeal.res_eq _ (sorted_of_pre _ _ _ (hpre c))).symm), (h c).2⟩)
      (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts, Cert.Pre_sorted_graphs.Gen.facts,
  frame_k, frame_i, frame_i_sorted, frame_r, frame_r_sorted, trivial, equal_sorted⟩

end Cert.Proof

end
